-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_starts_at_blocks [hPre_starts_at_blocks : Cert.Pre_starts_at_blocks.Facts] (m : (ℓ : Loc Cert.KernelIdeal.nD Cert.KernelIdeal.τ Cert.KernelIdeal.sig) → Buf (Elt Ideal) ℓ) : Prop :=
  ∀ c : Dev Cert.KernelIdeal.nD,
    (Cert.Pre_starts_at_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_starts_at_blocks [hPre_starts_at_blocks : Cert.Pre_starts_at_blocks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_starts_at_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_starts_at_blocks [hKernelIdeal : Cert.KernelIdeal.Facts] [hPre_starts_at_blocks : Cert.Pre_starts_at_blocks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_starts_at_blocks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_starts_at_blocks [hReferenceIdeal : Cert.ReferenceIdeal.Facts] [hPre_starts_at_blocks : Cert.Pre_starts_at_blocks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_starts_at_blocks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_starts_at_blocks [hKernelIdeal : Cert.KernelIdeal.Facts] [hReferenceIdeal : Cert.ReferenceIdeal.Facts] [hPre_starts_at_blocks : Cert.Pre_starts_at_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_starts_at_blocks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_starts_at_blocks : Cert.Pre_starts_at_blocks.Facts),
    quiescent_Kernel (hKernel := hKernel)
    ∧ quiescent_KernelIdeal (hKernelIdeal := hKernelIdeal)
    ∧ quiescent_KernelIdeal_pre_starts_at_blocks (hKernelIdeal := hKernelIdeal) (hPre_starts_at_blocks := hPre_starts_at_blocks)
    ∧ quiescent_ReferenceIdeal (hReferenceIdeal := hReferenceIdeal)
    ∧ quiescent_ReferenceIdeal_pre_starts_at_blocks (hReferenceIdeal := hReferenceIdeal) (hPre_starts_at_blocks := hPre_starts_at_blocks)
    ∧ preserves_Kernel_KernelIdeal
    ∧ algebraic_KernelIdeal_ReferenceIdeal_pre_starts_at_blocks (hKernelIdeal := hKernelIdeal) (hReferenceIdeal := hReferenceIdeal) (hPre_starts_at_blocks := hPre_starts_at_blocks)
-- ==== Pre_starts_at_blocks.lean ====
abbrev S16384x512 : Shape := ⟨2, ![16384, 512]⟩
abbrev S9 : Shape := ⟨1, ![9]⟩
abbrev S512x512 : Shape := ⟨2, ![512, 512]⟩
abbrev S_ : Shape := ⟨0, ![]⟩

class Facts : Prop where
  bcast_S_S9 : S_.BroadcastsInDim S9 (![] : Fin 0 → Fin S9.rank)

variable [Facts]

def fn {F : FTy → Type} [FloatOps F] (main_arg0 : FVec F S16384x512 .f32) (main_arg1 : IVec S9 32) (main_arg2 : FVec F S512x512 .f32) (main_arg3 : FVec F S512x512 .f32) (main_arg4 : FVec F S512x512 .f32) : IVec S9 1 :=
  let main_v0 : IVec S9 32 := iotaInDim S9 32 0
  let main_c : IVec S_ 32 := constantI S_ 32 0#32
  let main_v1 : IVec S9 32 := broadcastInDim S9 ![] bcast_S_S9 main_c
  let main_v2 : IVec S9 1 := cmpi .sgt main_v0 main_v1
  let main_c_0 : IVec S_ 32 := constantI S_ 32 0#32
  let main_v3 : IVec S9 32 := broadcastInDim S9 ![] bcast_S_S9 main_c_0
  let main_v4 : IVec S9 1 := cmpi .eq main_arg1 main_v3
  let main_v5 : IVec S9 1 := ori main_v2 main_v4
  let main_c_1 : IVec S_ 32 := constantI S_ 32 8#32
  let main_v6 : IVec S9 32 := broadcastInDim S9 ![] bcast_S_S9 main_c_1
  let main_v7 : IVec S9 1 := cmpi .eq main_v0 main_v6
  let main_c_2 : IVec S_ 32 := constantI S_ 32 0#32
  let main_v8 : IVec S9 32 := broadcastInDim S9 ![] bcast_S_S9 main_c_2
  let main_v9 : IVec S9 1 := cmpi .sge main_arg1 main_v8
  let main_c_3 : IVec S_ 32 := constantI S_ 32 1023#32
  let main_v10 : IVec S9 32 := broadcastInDim S9 ![] bcast_S_S9 main_c_3
  let main_v11 : IVec S9 32 := andi main_arg1 main_v10
  let main_c_4 : IVec S_ 32 := constantI S_ 32 0#32
  let main_v12 : IVec S9 32 := broadcastInDim S9 ![] bcast_S_S9 main_c_4
  let main_v13 : IVec S9 1 := cmpi .eq main_v11 main_v12
  let main_v14 : IVec S9 1 := andi main_v9 main_v13
  let main_v15 : IVec S9 1 := andi main_v14 main_v5
  let main_v16 : IVec S9 1 := ori main_v7 main_v15
  main_v16
-- ==== Kernel.lean ====
abbrev S16384x512 : Shape := ⟨2, ![16384, 512]⟩
abbrev S9 : Shape := ⟨1, ![9]⟩
abbrev S512x512 : Shape := ⟨2, ![512, 512]⟩
abbrev S1024x512 : Shape := ⟨2, ![1024, 512]⟩
abbrev S1x512 : Shape := ⟨2, ![1, 512]⟩
abbrev S2x1024x1 : Shape := ⟨3, ![2, 1024, 1]⟩
abbrev S2x1024x512 : Shape := ⟨3, ![2, 1024, 512]⟩
abbrev S1x1024x1 : Shape := ⟨3, ![1, 1024, 1]⟩
abbrev S1024x1 : Shape := ⟨2, ![1024, 1]⟩
abbrev S1x1024x512 : Shape := ⟨3, ![1, 1024, 512]⟩
abbrev S1023x512 : Shape := ⟨2, ![1023, 512]⟩
abbrev S1024 : Shape := ⟨1, ![1024]⟩
abbrev S1 : Shape := ⟨1, ![1]⟩
abbrev S1x1 : Shape := ⟨2, ![1, 1]⟩
abbrev S1023x1 : Shape := ⟨2, ![1023, 1]⟩
abbrev S2x1 : Shape := ⟨2, ![2, 1]⟩
abbrev S1022x1 : Shape := ⟨2, ![1022, 1]⟩
abbrev S4x1 : Shape := ⟨2, ![4, 1]⟩
abbrev S1020x1 : Shape := ⟨2, ![1020, 1]⟩
abbrev S8x1 : Shape := ⟨2, ![8, 1]⟩
abbrev S1016x1 : Shape := ⟨2, ![1016, 1]⟩
abbrev S16x1 : Shape := ⟨2, ![16, 1]⟩
abbrev S1008x1 : Shape := ⟨2, ![1008, 1]⟩
abbrev S32x1 : Shape := ⟨2, ![32, 1]⟩
abbrev S992x1 : Shape := ⟨2, ![992, 1]⟩
abbrev S64x1 : Shape := ⟨2, ![64, 1]⟩
abbrev S960x1 : Shape := ⟨2, ![960, 1]⟩
abbrev S128x1 : Shape := ⟨2, ![128, 1]⟩
abbrev S896x1 : Shape := ⟨2, ![896, 1]⟩
abbrev S256x1 : Shape := ⟨2, ![256, 1]⟩
abbrev S768x1 : Shape := ⟨2, ![768, 1]⟩
abbrev S512x1 : Shape := ⟨2, ![512, 1]⟩

abbrev nBuf : Space → Nat
  | .hbm => 6
  | .vmem => 13
  | .smem => 1
  | _ => 0

abbrev bufTy : (tb : Table) → Fin (tcTables nBuf tb) → BufTy
  | .hbm, ⟨0, _⟩ => ⟨S16384x512, .f32⟩
  | .hbm, ⟨1, _⟩ => ⟨S9, .i32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1024x512, .f32⟩
  | .local _ .vmem, ⟨8, _⟩ => ⟨S1024x512, .f32⟩
  | .local _ .vmem, ⟨9, _⟩ => ⟨S1x512, .f32⟩
  | .local _ .vmem, ⟨10, _⟩ => ⟨S1x512, .f32⟩
  | .local _ .vmem, ⟨11, _⟩ => ⟨S2x1024x1, .f32⟩
  | .local _ .vmem, ⟨12, _⟩ => ⟨S2x1024x512, .f32⟩
  | .local _ .smem, ⟨0, _⟩ => ⟨S9, .i32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![17], ![false]⟩

def k0_off1 (i : grid0.Coords) : Fin 3 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.remsi v0 c2_i32
  let v2 : Index := Scalar.indexCast v1
  let c0 : Index := 0#32
  let c0_0 : Index := 0#32
  ![v2.toNat, 0, 0]
def k0_off2 (i : grid0.Coords) : Fin 3 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.remsi v0 c2_i32
  let v5 : Index := Scalar.indexCast v1
  let c0_1 : Index := 0#32
  let c0_2 : Index := 0#32
  ![v5.toNat, 0, 0]
def k0_off3 (i : grid0.Coords) : Fin 3 → Nat :=
  let arg0 : BitVec 32 := BitVec.ofNat 32 (i 0).val
  let c2_i32_26 : BitVec 32 := 2#32
  let v48 : BitVec 32 := Scalar.remsi arg0 c2_i32_26
  let v50 : Index := Scalar.indexCast v48
  let c0_27 : Index := 0#32
  let c0_28 : Index := 0#32
  ![v50.toNat, 0, 0]
def k0_off4 (i : grid0.Coords) : Fin 3 → Nat :=
  let arg0 : BitVec 32 := BitVec.ofNat 32 (i 0).val
  let c2_i32_26 : BitVec 32 := 2#32
  let v48 : BitVec 32 := Scalar.remsi arg0 c2_i32_26
  let v55 : Index := Scalar.indexCast v48
  let c0_29 : Index := 0#32
  let c0_30 : Index := 0#32
  ![v55.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S9 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x512 : Shape := ⟨2, ![16384, 512]⟩
abbrev S9 : Shape := ⟨1, ![9]⟩
abbrev S512x512 : Shape := ⟨2, ![512, 512]⟩
abbrev S_ : Shape := ⟨0, ![]⟩
abbrev S16384 : Shape := ⟨1, ![16384]⟩
abbrev S7 : Shape := ⟨1, ![7]⟩
abbrev S7x1 : Shape := ⟨2, ![7, 1]⟩
abbrev S16383x512 : Shape := ⟨2, ![16383, 512]⟩
abbrev S16383 : Shape := ⟨1, ![16383]⟩
abbrev S1 : Shape := ⟨1, ![1]⟩
abbrev S8 : Shape := ⟨1, ![8]⟩
abbrev S8x1 : Shape := ⟨2, ![8, 1]⟩
abbrev S16384x1 : Shape := ⟨2, ![16384, 1]⟩
abbrev S1x1 : Shape := ⟨2, ![1, 1]⟩
abbrev S512 : Shape := ⟨1, ![512]⟩
abbrev S1x512 : Shape := ⟨2, ![1, 512]⟩

abbrev nBuf : Space → Nat
  | .hbm => 318
  | .vmem => 0
  | .smem => 0
  | _ => 0

abbrev hbmTy0_0 (i : Nat) : BufTy := match i % 128 with
  | 0 => ⟨S16384x512, .f32⟩
  | 1 => ⟨S9, .i32⟩
  | 2 => ⟨S512x512, .f32⟩
  | 3 => ⟨S512x512, .f32⟩
  | 4 => ⟨S512x512, .f32⟩
  | 5 => ⟨S_, .i32⟩
  | 6 => ⟨S16384, .i32⟩
  | 7 => ⟨S7, .i32⟩
  | 8 => ⟨S_, .i32⟩
  | 9 => ⟨S7, .i32⟩
  | 10 => ⟨S7, .i1⟩
  | 11 => ⟨S_, .i32⟩
  | 12 => ⟨S7, .i32⟩
  | 13 => ⟨S7, .i32⟩
  | 14 => ⟨S7, .i32⟩
  | 15 => ⟨S7x1, .i32⟩
  | 16 => ⟨S_, .i32⟩
  | 17 => ⟨S7, .i32⟩
  | 18 => ⟨S16384, .i32⟩
  | 19 => ⟨S_, .i32⟩
  | 20 => ⟨S_, .i32⟩
  | 21 => ⟨S16384, .i32⟩
  | 22 => ⟨S16384x512, .f32⟩
  | 23 => ⟨S16384x512, .f32⟩
  | 24 => ⟨S16383x512, .f32⟩
  | 25 => ⟨S16383x512, .f32⟩
  | 26 => ⟨S16383x512, .f32⟩
  | 27 => ⟨S_, .f32⟩
  | 28 => ⟨S16383, .f32⟩
  | 29 => ⟨S16383x512, .f32⟩
  | 30 => ⟨S_, .f32⟩
  | 31 => ⟨S16383, .f32⟩
  | 32 => ⟨S16383, .f32⟩
  | 33 => ⟨S16383x512, .f32⟩
  | 34 => ⟨S_, .f32⟩
  | 35 => ⟨S16383, .f32⟩
  | 36 => ⟨S16383, .f32⟩
  | 37 => ⟨S16383, .f32⟩
  | 38 => ⟨S_, .f32⟩
  | 39 => ⟨S16383, .f32⟩
  | 40 => ⟨S16383, .f32⟩
  | 41 => ⟨S16383, .f32⟩
  | 42 => ⟨S_, .f32⟩
  | 43 => ⟨S16383, .f32⟩
  | 44 => ⟨S16383, .f32⟩
  | 45 => ⟨S_, .f32⟩
  | 46 => ⟨S16383, .f32⟩
  | 47 => ⟨S16383, .f32⟩
  | 48 => ⟨S_, .f32⟩
  | 49 => ⟨S_, .f32⟩
  | 50 => ⟨S_, .f32⟩
  | 51 => ⟨S16383, .f32⟩
  | 52 => ⟨S16383, .f32⟩
  | 53 => ⟨S_, .f32⟩
  | 54 => ⟨S16383, .f32⟩
  | 55 => ⟨S16383, .f32⟩
  | 56 => ⟨S_, .f32⟩
  | 57 => ⟨S1, .f32⟩
  | 58 => ⟨S16384, .f32⟩
  | 59 => ⟨S_, .i1⟩
  | 60 => ⟨S16384, .i1⟩
  | 61 => ⟨S8, .i32⟩
  | 62 => ⟨S_, .i32⟩
  | 63 => ⟨S8, .i32⟩
  | 64 => ⟨S8, .i1⟩
  | 65 => ⟨S_, .i32⟩
  | 66 => ⟨S8, .i32⟩
  | 67 => ⟨S8, .i32⟩
  | 68 => ⟨S8, .i32⟩
  | 69 => ⟨S8x1, .i32⟩
  | 70 => ⟨S_, .i1⟩
  | 71 => ⟨S8, .i1⟩
  | 72 => ⟨S16384, .i1⟩
  | 73 => ⟨S_, .f32⟩
  | 74 => ⟨S_, .f32⟩
  | 75 => ⟨S16384, .f32⟩
  | 76 => ⟨S16384, .f32⟩
  | 77 => ⟨S_, .f32⟩
  | 78 => ⟨S_, .f32⟩
  | 79 => ⟨S_, .f32⟩
  | 80 => ⟨S16384, .f32⟩
  | 81 => ⟨S16384, .f32⟩
  | 82 => ⟨S_, .f32⟩
  | 83 => ⟨S16384, .f32⟩
  | 84 => ⟨S16384, .f32⟩
  | 85 => ⟨S_, .f32⟩
  | 86 => ⟨S16384, .f32⟩
  | 87 => ⟨S16384, .i1⟩
  | 88 => ⟨S16384, .i32⟩
  | 89 => ⟨S_, .i32⟩
  | 90 => ⟨S_, .i32⟩
  | 91 => ⟨S16384, .i32⟩
  | 92 => ⟨S_, .i32⟩
  | 93 => ⟨S16384, .i32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S_, .i32⟩
  | 103 => ⟨S16384, .i32⟩
  | 104 => ⟨S16384, .i32⟩
  | 105 => ⟨S_, .i32⟩
  | 106 => ⟨S_, .i32⟩
  | 107 => ⟨S16384, .i32⟩
  | 108 => ⟨S_, .i32⟩
  | 109 => ⟨S_, .i32⟩
  | 110 => ⟨S16384, .i32⟩
  | 111 => ⟨S16384, .i32⟩
  | 112 => ⟨S16384, .i32⟩
  | 113 => ⟨S_, .i32⟩
  | 114 => ⟨S16384, .i32⟩
  | 115 => ⟨S16384, .i1⟩
  | 116 => ⟨S16384, .i32⟩
  | 117 => ⟨S16384, .i32⟩
  | 118 => ⟨S_, .i32⟩
  | 119 => ⟨S16384, .i32⟩
  | 120 => ⟨S16384, .i1⟩
  | 121 => ⟨S16384, .i1⟩
  | 122 => ⟨S_, .i32⟩
  | 123 => ⟨S16384, .i32⟩
  | 124 => ⟨S16384, .i32⟩
  | 125 => ⟨S16384, .i32⟩
  | 126 => ⟨S_, .i32⟩
  | 127 => ⟨S_, .i32⟩
  | _ => ⟨S16384x512, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S16384, .i32⟩
  | 5 => ⟨S16384, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i1⟩
  | 12 => ⟨S_, .i32⟩
  | 13 => ⟨S_, .i1⟩
  | 14 => ⟨S16384, .i1⟩
  | 15 => ⟨S16384, .i1⟩
  | 16 => ⟨S16384, .i1⟩
  | 17 => ⟨S16384, .i32⟩
  | 18 => ⟨S16384, .i32⟩
  | 19 => ⟨S16384, .i32⟩
  | 20 => ⟨S16384, .i32⟩
  | 21 => ⟨S_, .i32⟩
  | 22 => ⟨S_, .i32⟩
  | 23 => ⟨S1, .i32⟩
  | 24 => ⟨S16384, .i32⟩
  | 25 => ⟨S16384, .i32⟩
  | 26 => ⟨S16384, .i1⟩
  | 27 => ⟨S_, .i32⟩
  | 28 => ⟨S1, .i32⟩
  | 29 => ⟨S16384, .i32⟩
  | 30 => ⟨S16384, .i32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S1, .i32⟩
  | 40 => ⟨S_, .i32⟩
  | 41 => ⟨S16384x1, .i32⟩
  | 42 => ⟨S16384x1, .i1⟩
  | 43 => ⟨S1x1, .i32⟩
  | 44 => ⟨S16384x1, .i32⟩
  | 45 => ⟨S16384x1, .i1⟩
  | 46 => ⟨S16384x1, .i1⟩
  | 47 => ⟨S_, .i1⟩
  | 48 => ⟨S16384, .i1⟩
  | 49 => ⟨S16384x512, .f32⟩
  | 50 => ⟨S16384x512, .i1⟩
  | 51 => ⟨S_, .f32⟩
  | 52 => ⟨S16384x512, .f32⟩
  | 53 => ⟨S16384x512, .f32⟩
  | 54 => ⟨S16384x512, .f32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S1, .i32⟩
  | 64 => ⟨S_, .i32⟩
  | 65 => ⟨S16384x1, .i32⟩
  | 66 => ⟨S16384x1, .i1⟩
  | 67 => ⟨S1x1, .i32⟩
  | 68 => ⟨S16384x1, .i32⟩
  | 69 => ⟨S16384x1, .i1⟩
  | 70 => ⟨S16384x1, .i1⟩
  | 71 => ⟨S_, .i1⟩
  | 72 => ⟨S16384, .i1⟩
  | 73 => ⟨S16384, .f32⟩
  | 74 => ⟨S_, .f32⟩
  | 75 => ⟨S16384, .f32⟩
  | 76 => ⟨S16384, .f32⟩
  | 77 => ⟨S_, .i32⟩
  | 78 => ⟨S16384, .i32⟩
  | 79 => ⟨S16384, .i1⟩
  | 80 => ⟨S_, .i32⟩
  | 81 => ⟨S16384, .i32⟩
  | 82 => ⟨S16384, .i32⟩
  | 83 => ⟨S16384, .i32⟩
  | 84 => ⟨S16384x1, .i32⟩
  | 85 => ⟨S1, .i32⟩
  | 86 => ⟨S_, .i32⟩
  | 87 => ⟨S16384x1, .i32⟩
  | 88 => ⟨S16384x1, .i1⟩
  | 89 => ⟨S1x1, .i32⟩
  | 90 => ⟨S16384x1, .i32⟩
  | 91 => ⟨S16384x1, .i1⟩
  | 92 => ⟨S16384x1, .i1⟩
  | 93 => ⟨S_, .i1⟩
  | 94 => ⟨S16384, .i1⟩
  | 95 => ⟨S16384, .i32⟩
  | 96 => ⟨S_, .i32⟩
  | 97 => ⟨S16384, .i32⟩
  | 98 => ⟨S16384, .i32⟩
  | 99 => ⟨S_, .i1⟩
  | 100 => ⟨S1, .i1⟩
  | 101 => ⟨S16383, .i32⟩
  | 102 => ⟨S16383, .i32⟩
  | 103 => ⟨S16383, .i1⟩
  | 104 => ⟨S16384, .i1⟩
  | 105 => ⟨S_, .f32⟩
  | 106 => ⟨S16384, .f32⟩
  | 107 => ⟨S16384, .f32⟩
  | 108 => ⟨S_, .f32⟩
  | 109 => ⟨S_, .f32⟩
  | 110 => ⟨S16384, .f32⟩
  | 111 => ⟨S16384, .f32⟩
  | 112 => ⟨S16384x1, .f32⟩
  | 113 => ⟨S16384x512, .f32⟩
  | 114 => ⟨S16384x512, .f32⟩
  | 115 => ⟨S_, .f32⟩
  | 116 => ⟨S512, .f32⟩
  | 117 => ⟨S_, .f32⟩
  | 118 => ⟨S16384x512, .f32⟩
  | 119 => ⟨S_, .i32⟩
  | 120 => ⟨S16384, .f32⟩
  | 121 => ⟨S16384x512, .f32⟩
  | 122 => ⟨S_, .i32⟩
  | 123 => ⟨S512, .f32⟩
  | 124 => ⟨S16384x512, .f32⟩
  | 125 => ⟨S_, .i32⟩
  | 126 => ⟨S_, .i1⟩
  | 127 => ⟨S1, .f32⟩
  | _ => ⟨S16384x512, .f32⟩

abbrev hbmTy0_2 (i : Nat) : BufTy := match i % 128 with
  | 0 => ⟨S_, .f32⟩
  | 1 => ⟨S_, .i32⟩
  | 2 => ⟨S1x512, .f32⟩
  | 3 => ⟨S512, .f32⟩
  | 4 => ⟨S512, .f32⟩
  | 5 => ⟨S512, .f32⟩
  | 6 => ⟨S512, .f32⟩
  | 7 => ⟨S1x512, .f32⟩
  | 8 => ⟨S_, .i32⟩
  | 9 => ⟨S16384x512, .f32⟩
  | 10 => ⟨S_, .i32⟩
  | 11 => ⟨S_, .i32⟩
  | 12 => ⟨S16384, .i32⟩
  | 13 => ⟨S_, .i32⟩
  | 14 => ⟨S_, .i32⟩
  | 15 => ⟨S16384, .i32⟩
  | 16 => ⟨S_, .i32⟩
  | 17 => ⟨S16384, .i32⟩
  | 18 => ⟨S16384, .i32⟩
  | 19 => ⟨S_, .i32⟩
  | 20 => ⟨S_, .i32⟩
  | 21 => ⟨S_, .i32⟩
  | 22 => ⟨S16384, .i32⟩
  | 23 => ⟨S16384, .i32⟩
  | 24 => ⟨S_, .i32⟩
  | 25 => ⟨S16384, .i32⟩
  | 26 => ⟨S16384, .i32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S1, .i32⟩
  | 36 => ⟨S_, .i32⟩
  | 37 => ⟨S16384x1, .i32⟩
  | 38 => ⟨S16384x1, .i1⟩
  | 39 => ⟨S1x1, .i32⟩
  | 40 => ⟨S16384x1, .i32⟩
  | 41 => ⟨S16384x1, .i1⟩
  | 42 => ⟨S16384x1, .i1⟩
  | 43 => ⟨S_, .i1⟩
  | 44 => ⟨S16384, .i1⟩
  | 45 => ⟨S16384x512, .f32⟩
  | 46 => ⟨S16384x512, .i1⟩
  | 47 => ⟨S_, .f32⟩
  | 48 => ⟨S16384x512, .f32⟩
  | 49 => ⟨S16384x512, .f32⟩
  | 50 => ⟨S_, .f32⟩
  | 51 => ⟨S16384, .f32⟩
  | 52 => ⟨S16384, .f32⟩
  | 53 => ⟨S16384, .f32⟩
  | 54 => ⟨S_, .f32⟩
  | 55 => ⟨S16384, .f32⟩
  | 56 => ⟨S16384, .f32⟩
  | 57 => ⟨S16384, .f32⟩
  | 58 => ⟨S16384x1, .f32⟩
  | 59 => ⟨S16384x512, .f32⟩
  | 60 => ⟨S16384x512, .f32⟩
  | 61 => ⟨S16384x512, .f32⟩
  | _ => ⟨S16384x512, .f32⟩

abbrev hbmTy (i : Nat) : BufTy := match i / 128 with
  | 0 => hbmTy0_0 i
  | 1 => hbmTy0_1 i
  | 2 => hbmTy0_2 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_call0_call0_c : Ref sig .tc := ⟨.hbm, 19, rfl⟩
abbrev main_call0_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_v17 : Ref sig .tc := ⟨.hbm, 32, rfl⟩
abbrev main_call2_v0 : Ref sig .tc := ⟨.hbm, 33, rfl⟩
abbrev main_call2_cst : Ref sig .tc := ⟨.hbm, 34, rfl⟩
abbrev main_call2_v1 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_cst_7 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v27 : Ref sig .tc := ⟨.hbm, 55, rfl⟩
abbrev main_cst_8 : Ref sig .tc := ⟨.hbm, 56, rfl⟩
abbrev main_v28 : Ref sig .tc := ⟨.hbm, 57, rfl⟩
abbrev main_v29 : Ref sig .tc := ⟨.hbm, 58, rfl⟩
abbrev main_c_9 : Ref sig .tc := ⟨.hbm, 59, rfl⟩
abbrev main_v30 : Ref sig .tc := ⟨.hbm, 60, rfl⟩
abbrev main_v31 : Ref sig .tc := ⟨.hbm, 61, rfl⟩
abbrev main_c_10 : Ref sig .tc := ⟨.hbm, 62, rfl⟩
abbrev main_v32 : Ref sig .tc := ⟨.hbm, 63, rfl⟩
abbrev main_v33 : Ref sig .tc := ⟨.hbm, 64, rfl⟩
abbrev main_c_11 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_12 : Ref sig .tc := ⟨.hbm, 70, rfl⟩
abbrev main_v38 : Ref sig .tc := ⟨.hbm, 71, rfl⟩
abbrev main_v39 : Ref sig .tc := ⟨.hbm, 72, rfl⟩
abbrev main_cst_13 : Ref sig .tc := ⟨.hbm, 73, rfl⟩
abbrev main_call4_v0 : Ref sig .tc := ⟨.hbm, 74, rfl⟩
abbrev main_call4_v1 : Ref sig .tc := ⟨.hbm, 75, rfl⟩
abbrev main_v40 : Ref sig .tc := ⟨.hbm, 76, rfl⟩
abbrev main_cst_14 : Ref sig .tc := ⟨.hbm, 77, rfl⟩
abbrev main_cst_15 : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_v41 : Ref sig .tc := ⟨.hbm, 84, rfl⟩
abbrev main_cst_16 : Ref sig .tc := ⟨.hbm, 85, rfl⟩
abbrev main_v42 : Ref sig .tc := ⟨.hbm, 86, rfl⟩
abbrev main_v43 : Ref sig .tc := ⟨.hbm, 87, rfl⟩
abbrev main_call6_v0 : Ref sig .tc := ⟨.hbm, 88, rfl⟩
abbrev main_call6_call0_c : Ref sig .tc := ⟨.hbm, 89, rfl⟩
abbrev main_call6_call0_v0 : Ref sig .tc := ⟨.hbm, 90, rfl⟩
abbrev main_v44 : Ref sig .tc := ⟨.hbm, 91, rfl⟩
abbrev main_c_17 : Ref sig .tc := ⟨.hbm, 92, rfl⟩
abbrev main_v45 : Ref sig .tc := ⟨.hbm, 93, rfl⟩
abbrev main_c_18 : Ref sig .tc := ⟨.hbm, 94, rfl⟩
abbrev main_v46 : Ref sig .tc := ⟨.hbm, 95, rfl⟩
abbrev main_v47 : Ref sig .tc := ⟨.hbm, 96, rfl⟩
abbrev main_c_19 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_c_20 : Ref sig .tc := ⟨.hbm, 102, rfl⟩
abbrev main_v52 : Ref sig .tc := ⟨.hbm, 103, rfl⟩
abbrev main_v53 : Ref sig .tc := ⟨.hbm, 104, rfl⟩
abbrev main_call7_call0_c : Ref sig .tc := ⟨.hbm, 105, rfl⟩
abbrev main_call7_call0_v0 : Ref sig .tc := ⟨.hbm, 106, rfl⟩
abbrev main_v54 : Ref sig .tc := ⟨.hbm, 107, rfl⟩
abbrev main_c_21 : Ref sig .tc := ⟨.hbm, 108, rfl⟩
abbrev main_call8_v0 : Ref sig .tc := ⟨.hbm, 109, rfl⟩
abbrev main_call8_v1 : Ref sig .tc := ⟨.hbm, 110, rfl⟩
abbrev main_call8_v2 : Ref sig .tc := ⟨.hbm, 111, rfl⟩
abbrev main_call8_v3 : Ref sig .tc := ⟨.hbm, 112, rfl⟩
abbrev main_call8_v4 : Ref sig .tc := ⟨.hbm, 113, rfl⟩
abbrev main_call8_v5 : Ref sig .tc := ⟨.hbm, 114, rfl⟩
abbrev main_call8_v6 : Ref sig .tc := ⟨.hbm, 115, rfl⟩
abbrev main_call8_v7 : Ref sig .tc := ⟨.hbm, 116, rfl⟩
abbrev main_call8_v8 : Ref sig .tc := ⟨.hbm, 117, rfl⟩
abbrev main_call8_c : Ref sig .tc := ⟨.hbm, 118, rfl⟩
abbrev main_call8_v9 : Ref sig .tc := ⟨.hbm, 119, rfl⟩
abbrev main_call8_v10 : Ref sig .tc := ⟨.hbm, 120, rfl⟩
abbrev main_call8_v11 : Ref sig .tc := ⟨.hbm, 121, rfl⟩
abbrev main_call8_c_0 : Ref sig .tc := ⟨.hbm, 122, rfl⟩
abbrev main_call8_v12 : Ref sig .tc := ⟨.hbm, 123, rfl⟩
abbrev main_call8_v13 : Ref sig .tc := ⟨.hbm, 124, rfl⟩
abbrev main_v55 : Ref sig .tc := ⟨.hbm, 125, rfl⟩
abbrev main_c_22 : Ref sig .tc := ⟨.hbm, 126, rfl⟩
abbrev main_call9_v0 : Ref sig .tc := ⟨.hbm, 127, rfl⟩
abbrev main_call9_c : Ref sig .tc := ⟨.hbm, 128, rfl⟩
abbrev main_call9_v1 : Ref sig .tc := ⟨.hbm, 129, rfl⟩
abbrev main_call9_c_0 : Ref sig .tc := ⟨.hbm, 130, rfl⟩
abbrev main_call9_v2 : Ref sig .tc := ⟨.hbm, 131, rfl⟩
abbrev main_call9_v3 : Ref sig .tc := ⟨.hbm, 132, rfl⟩
abbrev main_call9_v4 : Ref sig .tc := ⟨.hbm, 133, rfl⟩
abbrev main_call9_c_1 : Ref sig .tc := ⟨.hbm, 134, rfl⟩
abbrev main_call9_v5 : Ref sig .tc := ⟨.hbm, 135, rfl⟩
abbrev main_call9_v6 : Ref sig .tc := ⟨.hbm, 136, rfl⟩
abbrev main_call9_c_2 : Ref sig .tc := ⟨.hbm, 137, rfl⟩
abbrev main_call9_v7 : Ref sig .tc := ⟨.hbm, 138, rfl⟩
abbrev main_call9_v8 : Ref sig .tc := ⟨.hbm, 139, rfl⟩
abbrev main_call9_c_3 : Ref sig .tc := ⟨.hbm, 140, rfl⟩
abbrev main_call9_v9 : Ref sig .tc := ⟨.hbm, 141, rfl⟩
abbrev main_call9_v10 : Ref sig .tc := ⟨.hbm, 142, rfl⟩
abbrev main_call9_v11 : Ref sig .tc := ⟨.hbm, 143, rfl⟩
abbrev main_call9_v12 : Ref sig .tc := ⟨.hbm, 144, rfl⟩
abbrev main_call9_v13 : Ref sig .tc := ⟨.hbm, 145, rfl⟩
abbrev main_call9_v14 : Ref sig .tc := ⟨.hbm, 146, rfl⟩
abbrev main_v56 : Ref sig .tc := ⟨.hbm, 147, rfl⟩
abbrev main_v57 : Ref sig .tc := ⟨.hbm, 148, rfl⟩
abbrev main_c_23 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_c_24 : Ref sig .tc := ⟨.hbm, 155, rfl⟩
abbrev main_v63 : Ref sig .tc := ⟨.hbm, 156, rfl⟩
abbrev main_call10_v0 : Ref sig .tc := ⟨.hbm, 157, rfl⟩
abbrev main_v64 : Ref sig .tc := ⟨.hbm, 158, rfl⟩
abbrev main_call11_c : Ref sig .tc := ⟨.hbm, 159, rfl⟩
abbrev main_call11_v0 : Ref sig .tc := ⟨.hbm, 160, rfl⟩
abbrev main_call11_v1 : Ref sig .tc := ⟨.hbm, 161, rfl⟩
abbrev main_call11_c_0 : Ref sig .tc := ⟨.hbm, 162, rfl⟩
abbrev main_call11_v2 : Ref sig .tc := ⟨.hbm, 163, rfl⟩
abbrev main_call11_v3 : Ref sig .tc := ⟨.hbm, 164, rfl⟩
abbrev main_call11_v4 : Ref sig .tc := ⟨.hbm, 165, rfl⟩
abbrev main_call11_v5 : Ref sig .tc := ⟨.hbm, 166, rfl⟩
abbrev main_call11_c_1 : Ref sig .tc := ⟨.hbm, 167, rfl⟩
abbrev main_call11_c_2 : Ref sig .tc := ⟨.hbm, 168, rfl⟩
abbrev main_call11_v6 : Ref sig .tc := ⟨.hbm, 169, rfl⟩
abbrev main_call11_v7 : Ref sig .tc := ⟨.hbm, 170, rfl⟩
abbrev main_call11_v8 : Ref sig .tc := ⟨.hbm, 171, rfl⟩
abbrev main_call11_v9 : Ref sig .tc := ⟨.hbm, 172, rfl⟩
abbrev main_call11_v10 : Ref sig .tc := ⟨.hbm, 173, rfl⟩
abbrev main_call11_v11 : Ref sig .tc := ⟨.hbm, 174, rfl⟩
abbrev main_call11_c_3 : Ref sig .tc := ⟨.hbm, 175, rfl⟩
abbrev main_call11_v12 : Ref sig .tc := ⟨.hbm, 176, rfl⟩
abbrev main_call11_v13 : Ref sig .tc := ⟨.hbm, 177, rfl⟩
abbrev main_call11_v14 : Ref sig .tc := ⟨.hbm, 178, rfl⟩
abbrev main_call11_cst : Ref sig .tc := ⟨.hbm, 179, rfl⟩
abbrev main_call11_v15 : Ref sig .tc := ⟨.hbm, 180, rfl⟩
abbrev main_v65 : Ref sig .tc := ⟨.hbm, 181, rfl⟩
abbrev main_v66 : Ref sig .tc := ⟨.hbm, 182, rfl⟩
abbrev main_call12_c : Ref sig .tc := ⟨.hbm, 183, rfl⟩
abbrev main_call12_v0 : Ref sig .tc := ⟨.hbm, 184, rfl⟩
abbrev main_call12_v1 : Ref sig .tc := ⟨.hbm, 185, rfl⟩
abbrev main_call12_c_0 : Ref sig .tc := ⟨.hbm, 186, rfl⟩
abbrev main_call12_v2 : Ref sig .tc := ⟨.hbm, 187, rfl⟩
abbrev main_call12_v3 : Ref sig .tc := ⟨.hbm, 188, rfl⟩
abbrev main_call12_v4 : Ref sig .tc := ⟨.hbm, 189, rfl⟩
abbrev main_call12_v5 : Ref sig .tc := ⟨.hbm, 190, rfl⟩
abbrev main_call12_c_1 : Ref sig .tc := ⟨.hbm, 191, rfl⟩
abbrev main_call12_c_2 : Ref sig .tc := ⟨.hbm, 192, rfl⟩
abbrev main_call12_v6 : Ref sig .tc := ⟨.hbm, 193, rfl⟩
abbrev main_call12_v7 : Ref sig .tc := ⟨.hbm, 194, rfl⟩
abbrev main_call12_v8 : Ref sig .tc := ⟨.hbm, 195, rfl⟩
abbrev main_call12_v9 : Ref sig .tc := ⟨.hbm, 196, rfl⟩
abbrev main_call12_v10 : Ref sig .tc := ⟨.hbm, 197, rfl⟩
abbrev main_call12_v11 : Ref sig .tc := ⟨.hbm, 198, rfl⟩
abbrev main_call12_c_3 : Ref sig .tc := ⟨.hbm, 199, rfl⟩
abbrev main_call12_v12 : Ref sig .tc := ⟨.hbm, 200, rfl⟩
abbrev main_call12_v13 : Ref sig .tc := ⟨.hbm, 201, rfl⟩
abbrev main_call12_cst : Ref sig .tc := ⟨.hbm, 202, rfl⟩
abbrev main_call12_v14 : Ref sig .tc := ⟨.hbm, 203, rfl⟩
abbrev main_v67 : Ref sig .tc := ⟨.hbm, 204, rfl⟩
abbrev main_call13_c : Ref sig .tc := ⟨.hbm, 205, rfl⟩
abbrev main_call13_v0 : Ref sig .tc := ⟨.hbm, 206, rfl⟩
abbrev main_call13_v1 : Ref sig .tc := ⟨.hbm, 207, rfl⟩
abbrev main_call13_c_0 : Ref sig .tc := ⟨.hbm, 208, rfl⟩
abbrev main_call13_v2 : Ref sig .tc := ⟨.hbm, 209, rfl⟩
abbrev main_call13_v3 : Ref sig .tc := ⟨.hbm, 210, rfl⟩
abbrev main_call13_v4 : Ref sig .tc := ⟨.hbm, 211, rfl⟩
abbrev main_call13_v5 : Ref sig .tc := ⟨.hbm, 212, rfl⟩
abbrev main_call13_c_1 : Ref sig .tc := ⟨.hbm, 213, rfl⟩
abbrev main_call13_c_2 : Ref sig .tc := ⟨.hbm, 214, rfl⟩
abbrev main_call13_v6 : Ref sig .tc := ⟨.hbm, 215, rfl⟩
abbrev main_call13_v7 : Ref sig .tc := ⟨.hbm, 216, rfl⟩
abbrev main_call13_v8 : Ref sig .tc := ⟨.hbm, 217, rfl⟩
abbrev main_call13_v9 : Ref sig .tc := ⟨.hbm, 218, rfl⟩
abbrev main_call13_v10 : Ref sig .tc := ⟨.hbm, 219, rfl⟩
abbrev main_call13_v11 : Ref sig .tc := ⟨.hbm, 220, rfl⟩
abbrev main_call13_c_3 : Ref sig .tc := ⟨.hbm, 221, rfl⟩
abbrev main_call13_v12 : Ref sig .tc := ⟨.hbm, 222, rfl⟩
abbrev main_call13_v13 : Ref sig .tc := ⟨.hbm, 223, rfl⟩
abbrev main_call13_c_4 : Ref sig .tc := ⟨.hbm, 224, rfl⟩
abbrev main_call13_v14 : Ref sig .tc := ⟨.hbm, 225, rfl⟩
abbrev main_v68 : Ref sig .tc := ⟨.hbm, 226, rfl⟩
abbrev main_c_25 : Ref sig .tc := ⟨.hbm, 227, rfl⟩
abbrev main_v69 : Ref sig .tc := ⟨.hbm, 228, rfl⟩
abbrev main_v70 : Ref sig .tc := ⟨.hbm, 229, rfl⟩
abbrev main_v71 : Ref sig .tc := ⟨.hbm, 230, rfl⟩
abbrev main_v72 : Ref sig .tc := ⟨.hbm, 231, rfl⟩
abbrev main_v73 : Ref sig .tc := ⟨.hbm, 232, rfl⟩
abbrev main_cst_26 : Ref sig .tc := ⟨.hbm, 233, rfl⟩
abbrev main_v74 : Ref sig .tc := ⟨.hbm, 234, rfl⟩
abbrev main_v75 : Ref sig .tc := ⟨.hbm, 235, rfl⟩
abbrev main_cst_27 : Ref sig .tc := ⟨.hbm, 236, rfl⟩
abbrev main_call14_v0 : Ref sig .tc := ⟨.hbm, 237, rfl⟩
abbrev main_call14_v1 : Ref sig .tc := ⟨.hbm, 238, rfl⟩
abbrev main_v76 : Ref sig .tc := ⟨.hbm, 239, rfl⟩
abbrev main_v77 : Ref sig .tc := ⟨.hbm, 240, rfl⟩
abbrev main_v78 : Ref sig .tc := ⟨.hbm, 241, rfl⟩
abbrev main_v79 : Ref sig .tc := ⟨.hbm, 242, rfl⟩
abbrev main_cst_28 : Ref sig .tc := ⟨.hbm, 243, rfl⟩
abbrev main_v80 : Ref sig .tc := ⟨.hbm, 244, rfl⟩
abbrev main_cst_29 : Ref sig .tc := ⟨.hbm, 245, rfl⟩
abbrev main_v81 : Ref sig .tc := ⟨.hbm, 246, rfl⟩
abbrev main_c_30 : Ref sig .tc := ⟨.hbm, 247, rfl⟩
abbrev main_v82_0 : Ref sig .tc := ⟨.hbm, 248, rfl⟩
abbrev main_v82_1 : Ref sig .tc := ⟨.hbm, 249, rfl⟩
abbrev main_v82_2 : Ref sig .tc := ⟨.hbm, 250, rfl⟩
abbrev main_v82_3 : Ref sig .tc := ⟨.hbm, 251, rfl⟩
abbrev main_v82_4 : Ref sig .tc := ⟨.hbm, 252, rfl⟩
abbrev main_while0c_c_40 : Ref sig .tc := ⟨.hbm, 253, rfl⟩
abbrev main_while0c_v99 : Ref sig .tc := ⟨.hbm, 254, rfl⟩
abbrev main_while0b_call15_v0 : Ref sig .tc := ⟨.hbm, 255, rfl⟩
abbrev main_while0b_v99 : Ref sig .tc := ⟨.hbm, 256, rfl⟩
abbrev main_while0b_call16_c : Ref sig .tc := ⟨.hbm, 257, rfl⟩
abbrev main_while0b_call16_v0 : Ref sig .tc := ⟨.hbm, 258, rfl⟩
abbrev main_while0b_v100 : Ref sig .tc := ⟨.hbm, 259, rfl⟩
abbrev main_while0b_v101 : Ref sig .tc := ⟨.hbm, 260, rfl⟩
abbrev main_while0b_v102 : Ref sig .tc := ⟨.hbm, 261, rfl⟩
abbrev main_while0b_v103 : Ref sig .tc := ⟨.hbm, 262, rfl⟩
abbrev main_while0b_call17_v0 : Ref sig .tc := ⟨.hbm, 263, rfl⟩
abbrev main_while0b_call17_c : Ref sig .tc := ⟨.hbm, 264, rfl⟩
abbrev main_while0b_v104 : Ref sig .tc := ⟨.hbm, 265, rfl⟩
abbrev main_while0b_c_40 : Ref sig .tc := ⟨.hbm, 266, rfl⟩
abbrev main_while0b_v105 : Ref sig .tc := ⟨.hbm, 267, rfl⟩
abbrev main_v83 : Ref sig .tc := ⟨.hbm, 268, rfl⟩
abbrev main_call18_call0_c : Ref sig .tc := ⟨.hbm, 269, rfl⟩
abbrev main_call18_call0_v0 : Ref sig .tc := ⟨.hbm, 270, rfl⟩
abbrev main_v84 : Ref sig .tc := ⟨.hbm, 271, rfl⟩
abbrev main_c_31 : Ref sig .tc := ⟨.hbm, 272, rfl⟩
abbrev main_v85 : Ref sig .tc := ⟨.hbm, 273, rfl⟩
abbrev main_v86 : Ref sig .tc := ⟨.hbm, 274, rfl⟩
abbrev main_c_32 : Ref sig .tc := ⟨.hbm, 275, rfl⟩
abbrev main_c_33 : Ref sig .tc := ⟨.hbm, 276, rfl⟩
abbrev main_call19_v0 : Ref sig .tc := ⟨.hbm, 277, rfl⟩
abbrev main_call19_v1 : Ref sig .tc := ⟨.hbm, 278, rfl⟩
abbrev main_call19_v2 : Ref sig .tc := ⟨.hbm, 279, rfl⟩
abbrev main_call19_v3 : Ref sig .tc := ⟨.hbm, 280, rfl⟩
abbrev main_call19_v4 : Ref sig .tc := ⟨.hbm, 281, rfl⟩
abbrev main_v87 : Ref sig .tc := ⟨.hbm, 282, rfl⟩
abbrev main_call20_c : Ref sig .tc := ⟨.hbm, 283, rfl⟩
abbrev main_call20_v0 : Ref sig .tc := ⟨.hbm, 284, rfl⟩
abbrev main_call20_v1 : Ref sig .tc := ⟨.hbm, 285, rfl⟩
abbrev main_call20_c_0 : Ref sig .tc := ⟨.hbm, 286, rfl⟩
abbrev main_call20_v2 : Ref sig .tc := ⟨.hbm, 287, rfl⟩
abbrev main_call20_v3 : Ref sig .tc := ⟨.hbm, 288, rfl⟩
abbrev main_call20_v4 : Ref sig .tc := ⟨.hbm, 289, rfl⟩
abbrev main_call20_v5 : Ref sig .tc := ⟨.hbm, 290, rfl⟩
abbrev main_call20_c_1 : Ref sig .tc := ⟨.hbm, 291, rfl⟩
abbrev main_call20_c_2 : Ref sig .tc := ⟨.hbm, 292, rfl⟩
abbrev main_call20_v6 : Ref sig .tc := ⟨.hbm, 293, rfl⟩
abbrev main_call20_v7 : Ref sig .tc := ⟨.hbm, 294, rfl⟩
abbrev main_call20_v8 : Ref sig .tc := ⟨.hbm, 295, rfl⟩
abbrev main_call20_v9 : Ref sig .tc := ⟨.hbm, 296, rfl⟩
abbrev main_call20_v10 : Ref sig .tc := ⟨.hbm, 297, rfl⟩
abbrev main_call20_v11 : Ref sig .tc := ⟨.hbm, 298, rfl⟩
abbrev main_call20_c_3 : Ref sig .tc := ⟨.hbm, 299, rfl⟩
abbrev main_call20_v12 : Ref sig .tc := ⟨.hbm, 300, rfl⟩
abbrev main_call20_v13 : Ref sig .tc := ⟨.hbm, 301, rfl⟩
abbrev main_call20_v14 : Ref sig .tc := ⟨.hbm, 302, rfl⟩
abbrev main_call20_cst : Ref sig .tc := ⟨.hbm, 303, rfl⟩
abbrev main_call20_v15 : Ref sig .tc := ⟨.hbm, 304, rfl⟩
abbrev main_v88 : Ref sig .tc := ⟨.hbm, 305, rfl⟩
abbrev main_cst_34 : Ref sig .tc := ⟨.hbm, 306, rfl⟩
abbrev main_v89 : Ref sig .tc := ⟨.hbm, 307, rfl⟩
abbrev main_v90 : Ref sig .tc := ⟨.hbm, 308, rfl⟩
abbrev main_v91 : Ref sig .tc := ⟨.hbm, 309, rfl⟩
abbrev main_cst_35 : Ref sig .tc := ⟨.hbm, 310, rfl⟩
abbrev main_v92 : Ref sig .tc := ⟨.hbm, 311, rfl⟩
abbrev main_v93 : Ref sig .tc := ⟨.hbm, 312, rfl⟩
abbrev main_v94 : Ref sig .tc := ⟨.hbm, 313, rfl⟩
abbrev main_v95 : Ref sig .tc := ⟨.hbm, 314, rfl⟩
abbrev main_v96 : Ref sig .tc := ⟨.hbm, 315, rfl⟩
abbrev main_v97 : Ref sig .tc := ⟨.hbm, 316, rfl⟩
abbrev main_v98 : Ref sig .tc := ⟨.hbm, 317, rfl⟩

abbrev nD : Nat := 1
abbrev τ : Topo := Topo.v7x

variable {F : FTy → Type} [FloatOps F]

abbrev main_while0_count : Scf.Loop 32 := ⟨0#32, 16384#32, 1#32⟩
-- ==== Proof.KIFrame.lean ====
module

public import proofs.«01_k».proof.Proof.Gen.KernelIdeal.Frame
public import proofs.«01_k».proof.Proof.Gen.KernelIdeal.Skeleton
public import Idealize.ShloMosaic.Lib.Tactic
public import Idealize.ShloMosaic.Lib.Pipeline.TableIdle

/-! The frame of the ideal kernel: it runs to the end and leaves its arguments as they were. -/

@[expose] public section

set_option maxRecDepth 16384

noncomputable section

namespace Cert.Proof.KIFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose ΦA)

variable {F : FTy → Type} [FloatOps F]

local notation "𝕄" => MT nD τ sig Unit (Elt F) ℕ (UR sig nD τ) ℕ

/-- The body calls no variants. -/
abbrev 𝒱₀ : Variants := Variants.none

/-- The four scratch buffers: the last row of `q`, the carried state, the two rings. -/
abbrev s0 : Memref sig .tc .vmem S1x512 .f32 := Memref.whole cc0_scratch0
/-- The carried state. -/
abbrev s1 : Memref sig .tc .vmem S1x512 .f32 := Memref.whole cc0_scratch1
/-- The ring of probabilities. -/
abbrev s2 : Memref sig .tc .vmem S2x1024x1 .f32 := Memref.whole cc0_scratch2
/-- The ring of projections. -/
abbrev s3 : Memref sig .tc .vmem S2x1024x512 .f32 := Memref.whole cc0_scratch3

/-- A whole memref's buffer held at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f
/-- A memref held with contents `X`. -/
abbrev hd (c : Dev nD) {sp : Space} {S : Shape} {e : EltTy} (M : Memref sig .tc sp S e) (X : S.Idx → Elt F e) : sProp 𝕄 :=
  M.view.loc (c : Thread nD τ) ↦[M.view.set]{fullShare} M.view.rep X

/-- On whole staging memrefs, from any contents, the body leaves the six inputs as they were. -/
theorem run (c : Dev nD) (i : grid0.Coords)
    (M1 : Memref sig .tc .smem S9 .i32) (h1 : M1.IsWhole) (M2 : Memref sig .tc .vmem S1024x512 .f32) (h2 : M2.IsWhole)
    (M3 : Memref sig .tc .vmem S1024x512 .f32) (h3 : M3.IsWhole) (M4 : Memref sig .tc .vmem S512x512 .f32) (h4 : M4.IsWhole)
    (M5 : Memref sig .tc .vmem S512x512 .f32) (h5 : M5.IsWhole) (M6 : Memref sig .tc .vmem S512x512 .f32) (h6 : M6.IsWhole)
    (M7 : Memref sig .tc .vmem S1024x512 .f32) (h7 : M7.IsWhole)
    (X1 : S9.Idx → Elt F .i32) (X2 X3 : S1024x512.Idx → Elt F .f32) (X4 X5 X6 : S512x512.Idx → Elt F .f32)
    (Q : PUnit → sProp 𝕄) :
    iprop(owns (c : Thread nD τ) M1 fullShare X1 ∗ owns (c : Thread nD τ) M2 fullShare X2 ∗ owns (c : Thread nD τ) M3 fullShare X3
      ∗ owns (c : Thread nD τ) M4 fullShare X4 ∗ owns (c : Thread nD τ) M5 fullShare X5 ∗ owns (c : Thread nD τ) M6 fullShare X6
      ∗ (∃ X, owns (c : Thread nD τ) M7 fullShare X)
      ∗ (∃ f, pt c s0 f) ∗ (∃ f, pt c s1 f) ∗ (∃ f, pt c s2 f) ∗ (∃ f, pt c s3 f)
      ∗ (iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ (∃ X, owns (c : Thread nD τ) M7 fullShare X) ∗ (∃ f, pt c s0 f) ∗ (∃ f, pt c s1 f) ∗ (∃ f, pt c s2 f) ∗ (∃ f, pt c s3 f)) -∗ Q ⟨⟩))
    ⊢ wp frame (wpE (defs₀ (F := F)) 𝒱₀ c none) Set.univ
        (cc0__fused i M1 h1 M2 h2 M3 h3 M4 h4 M5 h5 M6 h6 M7 h7 s0 (Memref.isWhole_whole _) s1 (Memref.isWhole_whole _) s2 (Memref.isWhole_whole _) s3 (Memref.isWhole_whole _)) Q := by
  simp only [owns_eq_rep]
  iintro ⟨H1, H2, H3, H4, H5, H6, ⟨%X7, H7⟩, ⟨%g0, G0⟩, ⟨%g1, G1⟩, ⟨%g2, G2⟩, ⟨%g3, G3⟩, Hk⟩
  simp only [cc0__fused_eq_skeleton]; unfold cc0__fused_skel
  sl_exec_parts
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _
    iapply (rep_of_owns (c : Thread nD τ) M7 fullShare _)
    unfold owns
    iexists _; isplitr; swap; · iexact H7
    ipureintro; rfl
  isplitl [G0]; · iexists _; iexact G0
  isplitl [G1]; · iexists _; iexact G1
  isplitl [G2]; · iexists _; iexact G2
  iexists _; iexact G3

variable (m : (ℓ : Loc nD τ sig) → Buf (Elt F) ℓ) (ρ : Dev nD → PrngReg)

/-- The arrays as launched, each input's staging buffer left at its block, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed ⟨6, by decide⟩ t
  Φ _ := ΦA spec0 c
  q w := Pipeline.shareOf spec0 w
  owed _ := 0

/-- Input 0's staging buffer is left at its block. -/
theorem after0_0 (c : Dev nD) (t : Fin cfg0.N) : (dats m 0 c).after 0 t = iblk m c 0 t := by dsimp only [dats]
/-- Input 1's staging buffer is left at its block. -/
theorem after0_1 (c : Dev nD) (t : Fin cfg0.N) : (dats m 0 c).after 1 t = iblk m c 1 t := by dsimp only [dats]
/-- Input 2's staging buffer is left at its block. -/
theorem after0_2 (c : Dev nD) (t : Fin cfg0.N) : (dats m 0 c).after 2 t = iblk m c 2 t := by dsimp only [dats]
/-- Input 3's staging buffer is left at its block. -/
theorem after0_3 (c : Dev nD) (t : Fin cfg0.N) : (dats m 0 c).after 3 t = iblk m c 3 t := by dsimp only [dats]
/-- Input 4's staging buffer is left at its block. -/
theorem after0_4 (c : Dev nD) (t : Fin cfg0.N) : (dats m 0 c).after 4 t = iblk m c 4 t := by dsimp only [dats]
/-- Input 5's staging buffer is left at its block. -/
theorem after0_5 (c : Dev nD) (t : Fin cfg0.N) : (dats m 0 c).after 5 t = iblk m c 5 t := by dsimp only [dats]
/-- Input 0's staging buffer holds its block when the body starts. -/
theorem before0_0 (c : Dev nD) (t : Fin cfg0.N) (d) : (dats m 0 c).before 0 t d = iblk m c 0 t :=
  before0_0_of m (dats m 0 c) rfl (after0_0 m c) t d
/-- Input 1's staging buffer holds its block when the body starts. -/
theorem before0_1 (c : Dev nD) (t : Fin cfg0.N) (d) : (dats m 0 c).before 1 t d = iblk m c 1 t :=
  before0_1_of m (dats m 0 c) rfl (after0_1 m c) t d
/-- Input 2's staging buffer holds its block when the body starts. -/
theorem before0_2 (c : Dev nD) (t : Fin cfg0.N) (d) : (dats m 0 c).before 2 t d = iblk m c 2 t :=
  before0_2_of m (dats m 0 c) rfl (after0_2 m c) t d
/-- Input 3's staging buffer holds its block when the body starts. -/
theorem before0_3 (c : Dev nD) (t : Fin cfg0.N) (d) : (dats m 0 c).before 3 t d = iblk m c 3 t :=
  before0_3_of m (dats m 0 c) rfl (after0_3 m c) t d
/-- Input 4's staging buffer holds its block when the body starts. -/
theorem before0_4 (c : Dev nD) (t : Fin cfg0.N) (d) : (dats m 0 c).before 4 t d = iblk m c 4 t :=
  before0_4_of m (dats m 0 c) rfl (after0_4 m c) t d
/-- Input 5's staging buffer holds its block when the body starts. -/
theorem before0_5 (c : Dev nD) (t : Fin cfg0.N) (d) : (dats m 0 c).before 5 t d = iblk m c 5 t :=
  before0_5_of m (dats m 0 c) rfl (after0_5 m c) t d

/-- The body meets its obligation at every point. -/
theorem body_obligation (c : Dev nD) : BodyObligationLoose (dats (F := F) m 0 c) (defs₀ (F := F)) 𝒱₀ () Set.univ (fun w => w.val == 6) := fun t => by
  rw [bigSep_W0, bigSep_W0]
  sl_whnfR [defs₀, Defs.onTc]
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl, after0_0, after0_1, after0_2, after0_3, after0_4, after0_5]
  rw [show (dats m 0 c).Φ t.castSucc = ΦA spec0 c from rfl]
  unfold ΦA; rw [scopedRest0_eq]
  simp only [show ((0 : Fin cfg0.W).val == 6) = false from rfl, show ((1 : Fin cfg0.W).val == 6) = false from rfl, show ((2 : Fin cfg0.W).val == 6) = false from rfl,
    show ((3 : Fin cfg0.W).val == 6) = false from rfl, show ((4 : Fin cfg0.W).val == 6) = false from rfl, show ((5 : Fin cfg0.W).val == 6) = false from rfl,
    show ((6 : Fin cfg0.W).val == 6) = true from rfl]
  iintro ⟨⟨⟨Hs0, Hs1, Hs2, Hs3⟩, Hr⟩, Ho, ⟨%d0, H0⟩, ⟨%d1, H1⟩, ⟨%d2, H2⟩, ⟨%d3, H3⟩, ⟨%d4, H4⟩, ⟨%d5, H5⟩, H6⟩
  iapply (run c _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs0]; · iexact Hs0
  isplitl [Hs1]; · iexact Hs1
  isplitl [Hs2]; · iexact Hs2
  isplitl [Hs3]; · iexact Hs3
  iintro ⟨H0, H1, H2, H3, H4, H5, H6, Hs0, Hs1, Hs2, Hs3⟩
  isplitl [Hs0 Hs1 Hs2 Hs3 Hr]
  · isplitr [Hr]; swap; · iexact Hr
    isplitl [Hs0]; · iexact Hs0
    isplitl [Hs1]; · iexact Hs1
    isplitl [Hs2]; · iexact Hs2
    iexact Hs3
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- From any memory with zero counters every execution ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_forget_shared cfgs (dats m) (0 : Fin 1) launch₀0 defs₀ 𝒱₀ (fun w => w.val == 6) m ρ main
    (hbody := fun c => body_obligation m c) (hq := fun _ _ _ => rfl)
    (howed := fun _ _ => rfl) (V := V m) (hmain := hmain m 𝒱₀) (hA := fun _ _ => rfl) (hΦ := fun _ _ => rfl)
    (Q' := _) (hQ' := fun r h => ⟨fun c => ⟨(h.1.arr_in c 2 rfl).trans (V_main_arg0 m c), (h.1.arr_in c 0 rfl).trans (V_main_arg1 m c),
      (h.1.arr_in c 3 rfl).trans (V_main_arg2 m c), (h.1.arr_in c 4 rfl).trans (V_main_arg3 m c), (h.1.arr_in c 5 rfl).trans (V_main_arg4 m c)⟩, h.2⟩)

end Cert.Proof.KIFrame
end
-- ==== Proof.RefRun.lean ====
module

public import proofs.«01_k».proof.Proof.Gen.ReferenceIdeal.Run

/-! What the reference's run leaves in its buffers: snapshots of the buffers after each stretch of operations, what each
stretch leaves alone, and the frame. -/

@[expose] public section

set_option maxRecDepth 16384

noncomputable section

namespace Cert.Proof.RefRun

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F] (m : (ℓ : Loc nD τ sig) → Buf (Elt F) ℓ) (ρ : Dev nD → PrngReg) (c : Dev nD)

/-- The buffers at launch. -/
def A0 : Valuation τ sig (Elt F) := launchContents m c
/-- The buffers after the first 1 stretches. -/
def A1 : Valuation τ sig (Elt F) := after hostOps0 (A0 m c)
/-- The buffers after the first 2 stretches. -/
def A2 : Valuation τ sig (Elt F) := after hostOps0_1 (A1 m c)
/-- The buffers after the first 3 stretches. -/
def A3 : Valuation τ sig (Elt F) := after hostOps0_2 (A2 m c)
/-- The buffers after the first 4 stretches. -/
def A4 : Valuation τ sig (Elt F) := after hostOps0_3 (A3 m c)
/-- The buffers after the first 5 stretches. -/
def A5 : Valuation τ sig (Elt F) := after hostOps0_4 (A4 m c)
/-- The buffers after the first 6 stretches. -/
def A6 : Valuation τ sig (Elt F) := after hostOps0_5 (A5 m c)
/-- The buffers after the first 7 stretches. -/
def A7 : Valuation τ sig (Elt F) := after hostOps0_6 (A6 m c)
/-- The buffers after the first 8 stretches. -/
def A8 : Valuation τ sig (Elt F) := after hostOps0_7 (A7 m c)
/-- The buffers after the first 9 stretches. -/
def A9 : Valuation τ sig (Elt F) := after hostOps0_8 (A8 m c)
/-- The buffers after the first 10 stretches. -/
def A10 : Valuation τ sig (Elt F) := after hostOps0_9 (A9 m c)
/-- The buffers after the first 11 stretches. -/
def A11 : Valuation τ sig (Elt F) := after hostOps0_10 (A10 m c)
/-- The buffers after the first 12 stretches. -/
def A12 : Valuation τ sig (Elt F) := after hostOps0_11 (A11 m c)
/-- The buffers after the first 13 stretches. -/
def A13 : Valuation τ sig (Elt F) := after hostOps0_12 (A12 m c)
/-- The buffers after the first 14 stretches. -/
def A14 : Valuation τ sig (Elt F) := after hostOps0_13 (A13 m c)
/-- The buffers after the first 15 stretches. -/
def A15 : Valuation τ sig (Elt F) := after hostOps0_14 (A14 m c)
/-- The buffers after the first 16 stretches. -/
def A16 : Valuation τ sig (Elt F) := after hostOps0_15 (A15 m c)
/-- The buffers after the first 17 stretches. -/
def A17 : Valuation τ sig (Elt F) := after hostOps0_16 (A16 m c)
/-- The buffers after the first 18 stretches. -/
def A18 : Valuation τ sig (Elt F) := after hostOps0_17 (A17 m c)
/-- The buffers after the first 19 stretches. -/
def A19 : Valuation τ sig (Elt F) := after hostOps0_18 (A18 m c)
/-- The buffers after the first 20 stretches. -/
def A20 : Valuation τ sig (Elt F) := after hostOps0_19 (A19 m c)
/-- The buffers after the first 21 stretches. -/
def A21 : Valuation τ sig (Elt F) := after hostOps0_20 (A20 m c)
/-- The buffers after the first 22 stretches. -/
def A22 : Valuation τ sig (Elt F) := after hostOps0_21 (A21 m c)
/-- The buffers after the first 23 stretches. -/
def A23 : Valuation τ sig (Elt F) := after hostOps0_22 (A22 m c)
/-- The buffers after the first 24 stretches. -/
def A24 : Valuation τ sig (Elt F) := after hostOps0_23 (A23 m c)
/-- The buffers after the first 25 stretches. -/
def A25 : Valuation τ sig (Elt F) := after hostOps0_24 (A24 m c)
/-- The buffers after the first 26 stretches. -/
def A26 : Valuation τ sig (Elt F) := after hostOps0_25 (A25 m c)
/-- The buffers after the first 27 stretches. -/
def A27 : Valuation τ sig (Elt F) := after hostOps0_26 (A26 m c)
/-- The buffers after the first 28 stretches. -/
def A28 : Valuation τ sig (Elt F) := after hostOps0_27 (A27 m c)

/-- The buffers when the loop is entered. -/
abbrev E : Valuation τ sig (Elt F) := A28 m c

/-- The buffers at the loop's entry. -/
theorem entry_eq : entryContents preI m c = A28 m c := by
  simp only [entryContents, preI, afterL_cons, afterL_nil]; rfl

/-- The buffers after the loop's last condition. -/
def B0 : Valuation τ sig (Elt F) := after condOps (atTrip condOps bodyI (entryContents preI m) 16384 c)
/-- The buffers after the loop and 1 stretches behind it. -/
def B1 : Valuation τ sig (Elt F) := after hostOps0_28 (B0 m c)
/-- The buffers after the loop and 2 stretches behind it. -/
def B2 : Valuation τ sig (Elt F) := after hostOps0_29 (B1 m c)
/-- The buffers after the loop and 3 stretches behind it. -/
def B3 : Valuation τ sig (Elt F) := after hostOps0_30 (B2 m c)
/-- The buffers after the loop and 4 stretches behind it. -/
def B4 : Valuation τ sig (Elt F) := after hostOps0_31 (B3 m c)
/-- The buffers after the loop and 5 stretches behind it. -/
def B5 : Valuation τ sig (Elt F) := after hostOps0_32 (B4 m c)
/-- The buffers after the loop and 6 stretches behind it. -/
def B6 : Valuation τ sig (Elt F) := after hostOps0_33 (B5 m c)
/-- The buffers after the loop and 7 stretches behind it. -/
def B7 : Valuation τ sig (Elt F) := after hostOps0_34 (B6 m c)
/-- The buffers after the loop and 8 stretches behind it. -/
def B8 : Valuation τ sig (Elt F) := after hostOps0_35 (B7 m c)
/-- The buffers at the end. -/
theorem final_eq : finalContents condOps preI bodyI postI 16384 m c = B8 m c := by
  simp only [finalContents, postI, afterL_cons, afterL_nil]; rfl

/-- The references `hostOps0_28` writes. -/
abbrev hostOps0_28_W : List (Ref sig .tc) := [main_v83]
/-- The operations of `hostOps0_28` write only the buffers listed. -/
theorem hostOps0_28_writes : (hostOps0_28 : List (HloOp τ sig (Elt F))).Forall fun op => op.writes ⊆ (hostOps0_28_W.map (Proc.devRef (τ := τ) .tc)).toFinset :=
  StableHlo.forall_writes_sub_of_map rfl
/-- The references `hostOps0_29` writes. -/
abbrev hostOps0_29_W : List (Ref sig .tc) := [main_call18_call0_c, main_call18_call0_v0, main_v84]
/-- The operations of `hostOps0_29` write only the buffers listed. -/
theorem hostOps0_29_writes : (hostOps0_29 : List (HloOp τ sig (Elt F))).Forall fun op => op.writes ⊆ (hostOps0_29_W.map (Proc.devRef (τ := τ) .tc)).toFinset :=
  StableHlo.forall_writes_sub_of_map rfl
/-- The references `hostOps0_30` writes. -/
abbrev hostOps0_30_W : List (Ref sig .tc) := [main_c_31, main_v85, main_v86, main_c_32, main_c_33]
/-- The operations of `hostOps0_30` write only the buffers listed. -/
theorem hostOps0_30_writes : (hostOps0_30 : List (HloOp τ sig (Elt F))).Forall fun op => op.writes ⊆ (hostOps0_30_W.map (Proc.devRef (τ := τ) .tc)).toFinset :=
  StableHlo.forall_writes_sub_of_map rfl
/-- The references `hostOps0_31` writes. -/
abbrev hostOps0_31_W : List (Ref sig .tc) := [main_call19_v0, main_call19_v1, main_call19_v2, main_call19_v3, main_call19_v4, main_v87]
/-- The operations of `hostOps0_31` write only the buffers listed. -/
theorem hostOps0_31_writes : (hostOps0_31 : List (HloOp τ sig (Elt F))).Forall fun op => op.writes ⊆ (hostOps0_31_W.map (Proc.devRef (τ := τ) .tc)).toFinset :=
  StableHlo.forall_writes_sub_of_map rfl
/-- The references `hostOps0_32` writes. -/
abbrev hostOps0_32_W : List (Ref sig .tc) := [main_call20_c, main_call20_v0, main_call20_v1, main_call20_c_0, main_call20_v2, main_call20_v3, main_call20_v4, main_call20_v5, main_call20_c_1, main_call20_c_2, main_call20_v6, main_call20_v7, main_call20_v8, main_call20_v9, main_call20_v10, main_call20_v11, main_call20_c_3, main_call20_v12, main_call20_v13, main_call20_v14, main_call20_cst, main_call20_v15, main_v88]
/-- The operations of `hostOps0_32` write only the buffers listed. -/
theorem hostOps0_32_writes : (hostOps0_32 : List (HloOp τ sig (Elt F))).Forall fun op => op.writes ⊆ (hostOps0_32_W.map (Proc.devRef (τ := τ) .tc)).toFinset :=
  StableHlo.forall_writes_sub_of_map rfl
/-- The references `hostOps0_33` writes. -/
abbrev hostOps0_33_W : List (Ref sig .tc) := [main_cst_34, main_v89, main_v90]
/-- The operations of `hostOps0_33` write only the buffers listed. -/
theorem hostOps0_33_writes : (hostOps0_33 : List (HloOp τ sig (Elt F))).Forall fun op => op.writes ⊆ (hostOps0_33_W.map (Proc.devRef (τ := τ) .tc)).toFinset :=
  StableHlo.forall_writes_sub_of_map rfl
/-- The references `hostOps0_34` writes. -/
abbrev hostOps0_34_W : List (Ref sig .tc) := [main_v91]
/-- The operations of `hostOps0_34` write only the buffers listed. -/
theorem hostOps0_34_writes : (hostOps0_34 : List (HloOp τ sig (Elt F))).Forall fun op => op.writes ⊆ (hostOps0_34_W.map (Proc.devRef (τ := τ) .tc)).toFinset :=
  StableHlo.forall_writes_sub_of_map rfl
/-- The references `hostOps0_35` writes. -/
abbrev hostOps0_35_W : List (Ref sig .tc) := [main_cst_35, main_v92, main_v93, main_v94, main_v95, main_v96, main_v97, main_v98]
/-- The operations of `hostOps0_35` write only the buffers listed. -/
theorem hostOps0_35_writes : (hostOps0_35 : List (HloOp τ sig (Elt F))).Forall fun op => op.writes ⊆ (hostOps0_35_W.map (Proc.devRef (τ := τ) .tc)).toFinset :=
  StableHlo.forall_writes_sub_of_map rfl
variable {m} {c} {r : Ref sig .tc}
/-- A buffer that stretch 0 before the loop does not write keeps its contents over it. -/
theorem keepA0 (h : r ∉ hostOps0_W) : A1 m c (Proc.devRef .tc r) = A0 m c (Proc.devRef .tc r) := after_of_writes_sub _ _ hostOps0_writes h
/-- A buffer that stretch 1 before the loop does not write keeps its contents over it. -/
theorem keepA1 (h : r ∉ hostOps0_1_W) : A2 m c (Proc.devRef .tc r) = A1 m c (Proc.devRef .tc r) := after_of_writes_sub _ _ hostOps0_1_writes h
/-- A buffer that stretch 2 before the loop does not write keeps its contents over it. -/
theorem keepA2 (h : r ∉ hostOps0_2_W) : A3 m c (Proc.devRef .tc r) = A2 m c (Proc.devRef .tc r) := after_of_writes_sub _ _ hostOps0_2_writes h
/-- A buffer that stretch 3 before the loop does not write keeps its contents over it. -/
theorem keepA3 (h : r ∉ hostOps0_3_W) : A4 m c (Proc.devRef .tc r) = A3 m c (Proc.devRef .tc r) := after_of_writes_sub _ _ hostOps0_3_writes h
/-- A buffer that stretch 4 before the loop does not write keeps its contents over it. -/
theorem keepA4 (h : r ∉ hostOps0_4_W) : A5 m c (Proc.devRef .tc r) = A4 m c (Proc.devRef .tc r) := after_of_writes_sub _ _ hostOps0_4_writes h
/-- A buffer that stretch 5 before the loop does not write keeps its contents over it. -/
theorem keepA5 (h : r ∉ hostOps0_5_W) : A6 m c (Proc.devRef .tc r) = A5 m c (Proc.devRef .tc r) := after_of_writes_sub _ _ hostOps0_5_writes h
/-- A buffer that stretch 6 before the loop does not write keeps its contents over it. -/
theorem keepA6 (h : r ∉ hostOps0_6_W) : A7 m c (Proc.devRef .tc r) = A6 m c (Proc.devRef .tc r) := after_of_writes_sub _ _ hostOps0_6_writes h
/-- A buffer that stretch 7 before the loop does not write keeps its contents over it. -/
theorem keepA7 (h : r ∉ hostOps0_7_W) : A8 m c (Proc.devRef .tc r) = A7 m c (Proc.devRef .tc r) := after_of_writes_sub _ _ hostOps0_7_writes h
/-- A buffer that stretch 8 before the loop does not write keeps its contents over it. -/
theorem keepA8 (h : r ∉ hostOps0_8_W) : A9 m c (Proc.devRef .tc r) = A8 m c (Proc.devRef .tc r) := after_of_writes_sub _ _ hostOps0_8_writes h
/-- A buffer that stretch 9 before the loop does not write keeps its contents over it. -/
theorem keepA9 (h : r ∉ hostOps0_9_W) : A10 m c (Proc.devRef .tc r) = A9 m c (Proc.devRef .tc r) := after_of_writes_sub _ _ hostOps0_9_writes h
/-- A buffer that stretch 10 before the loop does not write keeps its contents over it. -/
theorem keepA10 (h : r ∉ hostOps0_10_W) : A11 m c (Proc.devRef .tc r) = A10 m c (Proc.devRef .tc r) := after_of_writes_sub _ _ hostOps0_10_writes h
/-- A buffer that stretch 11 before the loop does not write keeps its contents over it. -/
theorem keepA11 (h : r ∉ hostOps0_11_W) : A12 m c (Proc.devRef .tc r) = A11 m c (Proc.devRef .tc r) := after_of_writes_sub _ _ hostOps0_11_writes h
/-- A buffer that stretch 12 before the loop does not write keeps its contents over it. -/
theorem keepA12 (h : r ∉ hostOps0_12_W) : A13 m c (Proc.devRef .tc r) = A12 m c (Proc.devRef .tc r) := after_of_writes_sub _ _ hostOps0_12_writes h
/-- A buffer that stretch 13 before the loop does not write keeps its contents over it. -/
theorem keepA13 (h : r ∉ hostOps0_13_W) : A14 m c (Proc.devRef .tc r) = A13 m c (Proc.devRef .tc r) := after_of_writes_sub _ _ hostOps0_13_writes h
/-- A buffer that stretch 14 before the loop does not write keeps its contents over it. -/
theorem keepA14 (h : r ∉ hostOps0_14_W) : A15 m c (Proc.devRef .tc r) = A14 m c (Proc.devRef .tc r) := after_of_writes_sub _ _ hostOps0_14_writes h
/-- A buffer that stretch 15 before the loop does not write keeps its contents over it. -/
theorem keepA15 (h : r ∉ hostOps0_15_W) : A16 m c (Proc.devRef .tc r) = A15 m c (Proc.devRef .tc r) := after_of_writes_sub _ _ hostOps0_15_writes h
/-- A buffer that stretch 16 before the loop does not write keeps its contents over it. -/
theorem keepA16 (h : r ∉ hostOps0_16_W) : A17 m c (Proc.devRef .tc r) = A16 m c (Proc.devRef .tc r) := after_of_writes_sub _ _ hostOps0_16_writes h
/-- A buffer that stretch 17 before the loop does not write keeps its contents over it. -/
theorem keepA17 (h : r ∉ hostOps0_17_W) : A18 m c (Proc.devRef .tc r) = A17 m c (Proc.devRef .tc r) := after_of_writes_sub _ _ hostOps0_17_writes h
/-- A buffer that stretch 18 before the loop does not write keeps its contents over it. -/
theorem keepA18 (h : r ∉ hostOps0_18_W) : A19 m c (Proc.devRef .tc r) = A18 m c (Proc.devRef .tc r) := after_of_writes_sub _ _ hostOps0_18_writes h
/-- A buffer that stretch 19 before the loop does not write keeps its contents over it. -/
theorem keepA19 (h : r ∉ hostOps0_19_W) : A20 m c (Proc.devRef .tc r) = A19 m c (Proc.devRef .tc r) := after_of_writes_sub _ _ hostOps0_19_writes h
/-- A buffer that stretch 20 before the loop does not write keeps its contents over it. -/
theorem keepA20 (h : r ∉ hostOps0_20_W) : A21 m c (Proc.devRef .tc r) = A20 m c (Proc.devRef .tc r) := after_of_writes_sub _ _ hostOps0_20_writes h
/-- A buffer that stretch 21 before the loop does not write keeps its contents over it. -/
theorem keepA21 (h : r ∉ hostOps0_21_W) : A22 m c (Proc.devRef .tc r) = A21 m c (Proc.devRef .tc r) := after_of_writes_sub _ _ hostOps0_21_writes h
/-- A buffer that stretch 22 before the loop does not write keeps its contents over it. -/
theorem keepA22 (h : r ∉ hostOps0_22_W) : A23 m c (Proc.devRef .tc r) = A22 m c (Proc.devRef .tc r) := after_of_writes_sub _ _ hostOps0_22_writes h
/-- A buffer that stretch 23 before the loop does not write keeps its contents over it. -/
theorem keepA23 (h : r ∉ hostOps0_23_W) : A24 m c (Proc.devRef .tc r) = A23 m c (Proc.devRef .tc r) := after_of_writes_sub _ _ hostOps0_23_writes h
/-- A buffer that stretch 24 before the loop does not write keeps its contents over it. -/
theorem keepA24 (h : r ∉ hostOps0_24_W) : A25 m c (Proc.devRef .tc r) = A24 m c (Proc.devRef .tc r) := after_of_writes_sub _ _ hostOps0_24_writes h
/-- A buffer that stretch 25 before the loop does not write keeps its contents over it. -/
theorem keepA25 (h : r ∉ hostOps0_25_W) : A26 m c (Proc.devRef .tc r) = A25 m c (Proc.devRef .tc r) := after_of_writes_sub _ _ hostOps0_25_writes h
/-- A buffer that stretch 26 before the loop does not write keeps its contents over it. -/
theorem keepA26 (h : r ∉ hostOps0_26_W) : A27 m c (Proc.devRef .tc r) = A26 m c (Proc.devRef .tc r) := after_of_writes_sub _ _ hostOps0_26_writes h
/-- A buffer that stretch 27 before the loop does not write keeps its contents over it. -/
theorem keepA27 (h : r ∉ hostOps0_27_W) : A28 m c (Proc.devRef .tc r) = A27 m c (Proc.devRef .tc r) := after_of_writes_sub _ _ hostOps0_27_writes h
/-- A buffer that stretch 0 after the loop does not write keeps its contents over it. -/
theorem keepB0 (h : r ∉ hostOps0_28_W) : B1 m c (Proc.devRef .tc r) = B0 m c (Proc.devRef .tc r) := after_of_writes_sub _ _ hostOps0_28_writes h
/-- A buffer that stretch 1 after the loop does not write keeps its contents over it. -/
theorem keepB1 (h : r ∉ hostOps0_29_W) : B2 m c (Proc.devRef .tc r) = B1 m c (Proc.devRef .tc r) := after_of_writes_sub _ _ hostOps0_29_writes h
/-- A buffer that stretch 2 after the loop does not write keeps its contents over it. -/
theorem keepB2 (h : r ∉ hostOps0_30_W) : B3 m c (Proc.devRef .tc r) = B2 m c (Proc.devRef .tc r) := after_of_writes_sub _ _ hostOps0_30_writes h
/-- A buffer that stretch 3 after the loop does not write keeps its contents over it. -/
theorem keepB3 (h : r ∉ hostOps0_31_W) : B4 m c (Proc.devRef .tc r) = B3 m c (Proc.devRef .tc r) := after_of_writes_sub _ _ hostOps0_31_writes h
/-- A buffer that stretch 4 after the loop does not write keeps its contents over it. -/
theorem keepB4 (h : r ∉ hostOps0_32_W) : B5 m c (Proc.devRef .tc r) = B4 m c (Proc.devRef .tc r) := after_of_writes_sub _ _ hostOps0_32_writes h
/-- A buffer that stretch 5 after the loop does not write keeps its contents over it. -/
theorem keepB5 (h : r ∉ hostOps0_33_W) : B6 m c (Proc.devRef .tc r) = B5 m c (Proc.devRef .tc r) := after_of_writes_sub _ _ hostOps0_33_writes h
/-- A buffer that stretch 6 after the loop does not write keeps its contents over it. -/
theorem keepB6 (h : r ∉ hostOps0_34_W) : B7 m c (Proc.devRef .tc r) = B6 m c (Proc.devRef .tc r) := after_of_writes_sub _ _ hostOps0_34_writes h
/-- A buffer that stretch 7 after the loop does not write keeps its contents over it. -/
theorem keepB7 (h : r ∉ hostOps0_35_W) : B8 m c (Proc.devRef .tc r) = B7 m c (Proc.devRef .tc r) := after_of_writes_sub _ _ hostOps0_35_writes h

/-- The references written by the stretches `j, …, 27` before the loop. -/
abbrev wA28 : List (Ref sig .tc) := []
/-- The buffers written from stretch 27 before the loop on. -/
abbrev wA27 : List (Ref sig .tc) := hostOps0_27_W ++ wA28
/-- The buffers written from stretch 26 before the loop on. -/
abbrev wA26 : List (Ref sig .tc) := hostOps0_26_W ++ wA27
/-- The buffers written from stretch 25 before the loop on. -/
abbrev wA25 : List (Ref sig .tc) := hostOps0_25_W ++ wA26
/-- The buffers written from stretch 24 before the loop on. -/
abbrev wA24 : List (Ref sig .tc) := hostOps0_24_W ++ wA25
/-- The buffers written from stretch 23 before the loop on. -/
abbrev wA23 : List (Ref sig .tc) := hostOps0_23_W ++ wA24
/-- The buffers written from stretch 22 before the loop on. -/
abbrev wA22 : List (Ref sig .tc) := hostOps0_22_W ++ wA23
/-- The buffers written from stretch 21 before the loop on. -/
abbrev wA21 : List (Ref sig .tc) := hostOps0_21_W ++ wA22
/-- The buffers written from stretch 20 before the loop on. -/
abbrev wA20 : List (Ref sig .tc) := hostOps0_20_W ++ wA21
/-- The buffers written from stretch 19 before the loop on. -/
abbrev wA19 : List (Ref sig .tc) := hostOps0_19_W ++ wA20
/-- The buffers written from stretch 18 before the loop on. -/
abbrev wA18 : List (Ref sig .tc) := hostOps0_18_W ++ wA19
/-- The buffers written from stretch 17 before the loop on. -/
abbrev wA17 : List (Ref sig .tc) := hostOps0_17_W ++ wA18
/-- The buffers written from stretch 16 before the loop on. -/
abbrev wA16 : List (Ref sig .tc) := hostOps0_16_W ++ wA17
/-- The buffers written from stretch 15 before the loop on. -/
abbrev wA15 : List (Ref sig .tc) := hostOps0_15_W ++ wA16
/-- The buffers written from stretch 14 before the loop on. -/
abbrev wA14 : List (Ref sig .tc) := hostOps0_14_W ++ wA15
/-- The buffers written from stretch 13 before the loop on. -/
abbrev wA13 : List (Ref sig .tc) := hostOps0_13_W ++ wA14
/-- The buffers written from stretch 12 before the loop on. -/
abbrev wA12 : List (Ref sig .tc) := hostOps0_12_W ++ wA13
/-- The buffers written from stretch 11 before the loop on. -/
abbrev wA11 : List (Ref sig .tc) := hostOps0_11_W ++ wA12
/-- The buffers written from stretch 10 before the loop on. -/
abbrev wA10 : List (Ref sig .tc) := hostOps0_10_W ++ wA11
/-- The buffers written from stretch 9 before the loop on. -/
abbrev wA9 : List (Ref sig .tc) := hostOps0_9_W ++ wA10
/-- The buffers written from stretch 8 before the loop on. -/
abbrev wA8 : List (Ref sig .tc) := hostOps0_8_W ++ wA9
/-- The buffers written from stretch 7 before the loop on. -/
abbrev wA7 : List (Ref sig .tc) := hostOps0_7_W ++ wA8
/-- The buffers written from stretch 6 before the loop on. -/
abbrev wA6 : List (Ref sig .tc) := hostOps0_6_W ++ wA7
/-- The buffers written from stretch 5 before the loop on. -/
abbrev wA5 : List (Ref sig .tc) := hostOps0_5_W ++ wA6
/-- The buffers written from stretch 4 before the loop on. -/
abbrev wA4 : List (Ref sig .tc) := hostOps0_4_W ++ wA5
/-- The buffers written from stretch 3 before the loop on. -/
abbrev wA3 : List (Ref sig .tc) := hostOps0_3_W ++ wA4
/-- The buffers written from stretch 2 before the loop on. -/
abbrev wA2 : List (Ref sig .tc) := hostOps0_2_W ++ wA3
/-- The buffers written from stretch 1 before the loop on. -/
abbrev wA1 : List (Ref sig .tc) := hostOps0_1_W ++ wA2
/-- The buffers written from stretch 0 before the loop on. -/
abbrev wA0 : List (Ref sig .tc) := hostOps0_W ++ wA1
/-- The buffers written from stretch 8 after the loop on. -/
abbrev wB8 : List (Ref sig .tc) := []
/-- The buffers written from stretch 7 after the loop on. -/
abbrev wB7 : List (Ref sig .tc) := hostOps0_35_W ++ wB8
/-- The buffers written from stretch 6 after the loop on. -/
abbrev wB6 : List (Ref sig .tc) := hostOps0_34_W ++ wB7
/-- The buffers written from stretch 5 after the loop on. -/
abbrev wB5 : List (Ref sig .tc) := hostOps0_33_W ++ wB6
/-- The buffers written from stretch 4 after the loop on. -/
abbrev wB4 : List (Ref sig .tc) := hostOps0_32_W ++ wB5
/-- The buffers written from stretch 3 after the loop on. -/
abbrev wB3 : List (Ref sig .tc) := hostOps0_31_W ++ wB4
/-- The buffers written from stretch 2 after the loop on. -/
abbrev wB2 : List (Ref sig .tc) := hostOps0_30_W ++ wB3
/-- The buffers written from stretch 1 after the loop on. -/
abbrev wB1 : List (Ref sig .tc) := hostOps0_29_W ++ wB2
/-- The buffers written from stretch 0 after the loop on. -/
abbrev wB0 : List (Ref sig .tc) := hostOps0_28_W ++ wB1
/-- A buffer not written from stretch 28 on reads at the loop's entry what it read there. -/
theorem toE28 (h : r ∉ wA28) : A28 m c (Proc.devRef .tc r) = A28 m c (Proc.devRef .tc r) := rfl
/-- A buffer not written from stretch 27 on reads at the loop's entry what it read there. -/
theorem toE27 (h : r ∉ wA27) : A28 m c (Proc.devRef .tc r) = A27 m c (Proc.devRef .tc r) :=
  (toE28 fun h' => h (List.mem_append_right _ h')).trans (keepA27 fun h' => h (List.mem_append_left _ h'))
/-- A buffer not written from stretch 26 on reads at the loop's entry what it read there. -/
theorem toE26 (h : r ∉ wA26) : A28 m c (Proc.devRef .tc r) = A26 m c (Proc.devRef .tc r) :=
  (toE27 fun h' => h (List.mem_append_right _ h')).trans (keepA26 fun h' => h (List.mem_append_left _ h'))
/-- A buffer not written from stretch 25 on reads at the loop's entry what it read there. -/
theorem toE25 (h : r ∉ wA25) : A28 m c (Proc.devRef .tc r) = A25 m c (Proc.devRef .tc r) :=
  (toE26 fun h' => h (List.mem_append_right _ h')).trans (keepA25 fun h' => h (List.mem_append_left _ h'))
/-- A buffer not written from stretch 24 on reads at the loop's entry what it read there. -/
theorem toE24 (h : r ∉ wA24) : A28 m c (Proc.devRef .tc r) = A24 m c (Proc.devRef .tc r) :=
  (toE25 fun h' => h (List.mem_append_right _ h')).trans (keepA24 fun h' => h (List.mem_append_left _ h'))
/-- A buffer not written from stretch 23 on reads at the loop's entry what it read there. -/
theorem toE23 (h : r ∉ wA23) : A28 m c (Proc.devRef .tc r) = A23 m c (Proc.devRef .tc r) :=
  (toE24 fun h' => h (List.mem_append_right _ h')).trans (keepA23 fun h' => h (List.mem_append_left _ h'))
/-- A buffer not written from stretch 22 on reads at the loop's entry what it read there. -/
theorem toE22 (h : r ∉ wA22) : A28 m c (Proc.devRef .tc r) = A22 m c (Proc.devRef .tc r) :=
  (toE23 fun h' => h (List.mem_append_right _ h')).trans (keepA22 fun h' => h (List.mem_append_left _ h'))
/-- A buffer not written from stretch 21 on reads at the loop's entry what it read there. -/
theorem toE21 (h : r ∉ wA21) : A28 m c (Proc.devRef .tc r) = A21 m c (Proc.devRef .tc r) :=
  (toE22 fun h' => h (List.mem_append_right _ h')).trans (keepA21 fun h' => h (List.mem_append_left _ h'))
/-- A buffer not written from stretch 20 on reads at the loop's entry what it read there. -/
theorem toE20 (h : r ∉ wA20) : A28 m c (Proc.devRef .tc r) = A20 m c (Proc.devRef .tc r) :=
  (toE21 fun h' => h (List.mem_append_right _ h')).trans (keepA20 fun h' => h (List.mem_append_left _ h'))
/-- A buffer not written from stretch 19 on reads at the loop's entry what it read there. -/
theorem toE19 (h : r ∉ wA19) : A28 m c (Proc.devRef .tc r) = A19 m c (Proc.devRef .tc r) :=
  (toE20 fun h' => h (List.mem_append_right _ h')).trans (keepA19 fun h' => h (List.mem_append_left _ h'))
/-- A buffer not written from stretch 18 on reads at the loop's entry what it read there. -/
theorem toE18 (h : r ∉ wA18) : A28 m c (Proc.devRef .tc r) = A18 m c (Proc.devRef .tc r) :=
  (toE19 fun h' => h (List.mem_append_right _ h')).trans (keepA18 fun h' => h (List.mem_append_left _ h'))
/-- A buffer not written from stretch 17 on reads at the loop's entry what it read there. -/
theorem toE17 (h : r ∉ wA17) : A28 m c (Proc.devRef .tc r) = A17 m c (Proc.devRef .tc r) :=
  (toE18 fun h' => h (List.mem_append_right _ h')).trans (keepA17 fun h' => h (List.mem_append_left _ h'))
/-- A buffer not written from stretch 16 on reads at the loop's entry what it read there. -/
theorem toE16 (h : r ∉ wA16) : A28 m c (Proc.devRef .tc r) = A16 m c (Proc.devRef .tc r) :=
  (toE17 fun h' => h (List.mem_append_right _ h')).trans (keepA16 fun h' => h (List.mem_append_left _ h'))
/-- A buffer not written from stretch 15 on reads at the loop's entry what it read there. -/
theorem toE15 (h : r ∉ wA15) : A28 m c (Proc.devRef .tc r) = A15 m c (Proc.devRef .tc r) :=
  (toE16 fun h' => h (List.mem_append_right _ h')).trans (keepA15 fun h' => h (List.mem_append_left _ h'))
/-- A buffer not written from stretch 14 on reads at the loop's entry what it read there. -/
theorem toE14 (h : r ∉ wA14) : A28 m c (Proc.devRef .tc r) = A14 m c (Proc.devRef .tc r) :=
  (toE15 fun h' => h (List.mem_append_right _ h')).trans (keepA14 fun h' => h (List.mem_append_left _ h'))
/-- A buffer not written from stretch 13 on reads at the loop's entry what it read there. -/
theorem toE13 (h : r ∉ wA13) : A28 m c (Proc.devRef .tc r) = A13 m c (Proc.devRef .tc r) :=
  (toE14 fun h' => h (List.mem_append_right _ h')).trans (keepA13 fun h' => h (List.mem_append_left _ h'))
/-- A buffer not written from stretch 12 on reads at the loop's entry what it read there. -/
theorem toE12 (h : r ∉ wA12) : A28 m c (Proc.devRef .tc r) = A12 m c (Proc.devRef .tc r) :=
  (toE13 fun h' => h (List.mem_append_right _ h')).trans (keepA12 fun h' => h (List.mem_append_left _ h'))
/-- A buffer not written from stretch 11 on reads at the loop's entry what it read there. -/
theorem toE11 (h : r ∉ wA11) : A28 m c (Proc.devRef .tc r) = A11 m c (Proc.devRef .tc r) :=
  (toE12 fun h' => h (List.mem_append_right _ h')).trans (keepA11 fun h' => h (List.mem_append_left _ h'))
/-- A buffer not written from stretch 10 on reads at the loop's entry what it read there. -/
theorem toE10 (h : r ∉ wA10) : A28 m c (Proc.devRef .tc r) = A10 m c (Proc.devRef .tc r) :=
  (toE11 fun h' => h (List.mem_append_right _ h')).trans (keepA10 fun h' => h (List.mem_append_left _ h'))
/-- A buffer not written from stretch 9 on reads at the loop's entry what it read there. -/
theorem toE9 (h : r ∉ wA9) : A28 m c (Proc.devRef .tc r) = A9 m c (Proc.devRef .tc r) :=
  (toE10 fun h' => h (List.mem_append_right _ h')).trans (keepA9 fun h' => h (List.mem_append_left _ h'))
/-- A buffer not written from stretch 8 on reads at the loop's entry what it read there. -/
theorem toE8 (h : r ∉ wA8) : A28 m c (Proc.devRef .tc r) = A8 m c (Proc.devRef .tc r) :=
  (toE9 fun h' => h (List.mem_append_right _ h')).trans (keepA8 fun h' => h (List.mem_append_left _ h'))
/-- A buffer not written from stretch 7 on reads at the loop's entry what it read there. -/
theorem toE7 (h : r ∉ wA7) : A28 m c (Proc.devRef .tc r) = A7 m c (Proc.devRef .tc r) :=
  (toE8 fun h' => h (List.mem_append_right _ h')).trans (keepA7 fun h' => h (List.mem_append_left _ h'))
/-- A buffer not written from stretch 6 on reads at the loop's entry what it read there. -/
theorem toE6 (h : r ∉ wA6) : A28 m c (Proc.devRef .tc r) = A6 m c (Proc.devRef .tc r) :=
  (toE7 fun h' => h (List.mem_append_right _ h')).trans (keepA6 fun h' => h (List.mem_append_left _ h'))
/-- A buffer not written from stretch 5 on reads at the loop's entry what it read there. -/
theorem toE5 (h : r ∉ wA5) : A28 m c (Proc.devRef .tc r) = A5 m c (Proc.devRef .tc r) :=
  (toE6 fun h' => h (List.mem_append_right _ h')).trans (keepA5 fun h' => h (List.mem_append_left _ h'))
/-- A buffer not written from stretch 4 on reads at the loop's entry what it read there. -/
theorem toE4 (h : r ∉ wA4) : A28 m c (Proc.devRef .tc r) = A4 m c (Proc.devRef .tc r) :=
  (toE5 fun h' => h (List.mem_append_right _ h')).trans (keepA4 fun h' => h (List.mem_append_left _ h'))
/-- A buffer not written from stretch 3 on reads at the loop's entry what it read there. -/
theorem toE3 (h : r ∉ wA3) : A28 m c (Proc.devRef .tc r) = A3 m c (Proc.devRef .tc r) :=
  (toE4 fun h' => h (List.mem_append_right _ h')).trans (keepA3 fun h' => h (List.mem_append_left _ h'))
/-- A buffer not written from stretch 2 on reads at the loop's entry what it read there. -/
theorem toE2 (h : r ∉ wA2) : A28 m c (Proc.devRef .tc r) = A2 m c (Proc.devRef .tc r) :=
  (toE3 fun h' => h (List.mem_append_right _ h')).trans (keepA2 fun h' => h (List.mem_append_left _ h'))
/-- A buffer not written from stretch 1 on reads at the loop's entry what it read there. -/
theorem toE1 (h : r ∉ wA1) : A28 m c (Proc.devRef .tc r) = A1 m c (Proc.devRef .tc r) :=
  (toE2 fun h' => h (List.mem_append_right _ h')).trans (keepA1 fun h' => h (List.mem_append_left _ h'))
/-- A buffer not written from stretch 0 on reads at the loop's entry what it read there. -/
theorem toE0 (h : r ∉ wA0) : A28 m c (Proc.devRef .tc r) = A0 m c (Proc.devRef .tc r) :=
  (toE1 fun h' => h (List.mem_append_right _ h')).trans (keepA0 fun h' => h (List.mem_append_left _ h'))
/-- A buffer not written from stretch 8 after the loop on reads at the end what it read there. -/
theorem toB8 (h : r ∉ wB8) : B8 m c (Proc.devRef .tc r) = B8 m c (Proc.devRef .tc r) := rfl
/-- A buffer not written from stretch 7 after the loop on reads at the end what it read there. -/
theorem toB7 (h : r ∉ wB7) : B8 m c (Proc.devRef .tc r) = B7 m c (Proc.devRef .tc r) :=
  (toB8 fun h' => h (List.mem_append_right _ h')).trans (keepB7 fun h' => h (List.mem_append_left _ h'))
/-- A buffer not written from stretch 6 after the loop on reads at the end what it read there. -/
theorem toB6 (h : r ∉ wB6) : B8 m c (Proc.devRef .tc r) = B6 m c (Proc.devRef .tc r) :=
  (toB7 fun h' => h (List.mem_append_right _ h')).trans (keepB6 fun h' => h (List.mem_append_left _ h'))
/-- A buffer not written from stretch 5 after the loop on reads at the end what it read there. -/
theorem toB5 (h : r ∉ wB5) : B8 m c (Proc.devRef .tc r) = B5 m c (Proc.devRef .tc r) :=
  (toB6 fun h' => h (List.mem_append_right _ h')).trans (keepB5 fun h' => h (List.mem_append_left _ h'))
/-- A buffer not written from stretch 4 after the loop on reads at the end what it read there. -/
theorem toB4 (h : r ∉ wB4) : B8 m c (Proc.devRef .tc r) = B4 m c (Proc.devRef .tc r) :=
  (toB5 fun h' => h (List.mem_append_right _ h')).trans (keepB4 fun h' => h (List.mem_append_left _ h'))
/-- A buffer not written from stretch 3 after the loop on reads at the end what it read there. -/
theorem toB3 (h : r ∉ wB3) : B8 m c (Proc.devRef .tc r) = B3 m c (Proc.devRef .tc r) :=
  (toB4 fun h' => h (List.mem_append_right _ h')).trans (keepB3 fun h' => h (List.mem_append_left _ h'))
/-- A buffer not written from stretch 2 after the loop on reads at the end what it read there. -/
theorem toB2 (h : r ∉ wB2) : B8 m c (Proc.devRef .tc r) = B2 m c (Proc.devRef .tc r) :=
  (toB3 fun h' => h (List.mem_append_right _ h')).trans (keepB2 fun h' => h (List.mem_append_left _ h'))
/-- A buffer not written from stretch 1 after the loop on reads at the end what it read there. -/
theorem toB1 (h : r ∉ wB1) : B8 m c (Proc.devRef .tc r) = B1 m c (Proc.devRef .tc r) :=
  (toB2 fun h' => h (List.mem_append_right _ h')).trans (keepB1 fun h' => h (List.mem_append_left _ h'))
/-- A buffer not written from stretch 0 after the loop on reads at the end what it read there. -/
theorem toB0 (h : r ∉ wB0) : B8 m c (Proc.devRef .tc r) = B0 m c (Proc.devRef .tc r) :=
  (toB1 fun h' => h (List.mem_append_right _ h')).trans (keepB0 fun h' => h (List.mem_append_left _ h'))
/-- The buffers the loop writes. -/
abbrev wL : List (Ref sig .tc) := condOps_W ++ (while0Ops0_W ++ (while0Ops0_1_W ++ (while0Ops0_2_W ++ (while0Ops0_3_W ++ (while0Ops0_4_W)))))

/-- One trip leaves alone what neither its condition nor its body writes. -/
theorem trip_keep (V : Valuation τ sig (Elt F)) (h : r ∉ wL) :
    afterL bodyI (after condOps V) (Proc.devRef .tc r) = V (Proc.devRef .tc r) := by
  simp only [wL, List.mem_append, not_or] at h
  obtain ⟨hc, h0, h1, h2, h3, h4⟩ := h
  simp only [bodyI, afterL_cons, afterL_nil]
  rw [after_of_writes_sub _ _ while0Ops0_4_writes h4, after_of_writes_sub _ _ while0Ops0_3_writes h3, after_of_writes_sub _ _ while0Ops0_2_writes h2,
    after_of_writes_sub _ _ while0Ops0_1_writes h1, after_of_writes_sub _ _ while0Ops0_writes h0, after_of_writes_sub _ _ condOps_writes hc]

/-- A buffer the loop does not write reads after it what it read before it. -/
theorem loop_keep (h : r ∉ wL) (k : ℕ) : atTrip condOps bodyI (entryContents preI m) k c (Proc.devRef .tc r) = A28 m c (Proc.devRef .tc r) := by
  induction k with
  | zero => rw [atTrip_zero, entry_eq]
  | succ k ih => rw [atTrip_succ, trip_keep _ h, ih]

/-- The loop leaves alone what it does not write. -/
theorem B0_keep (h : r ∉ wL) : B0 m c (Proc.devRef .tc r) = A28 m c (Proc.devRef .tc r) := by
  unfold B0
  rw [after_of_writes_sub _ _ condOps_writes (fun h' => h (List.mem_append_left _ h')), loop_keep h]

/-- A buffer that no operation writes ends as it was launched. -/
theorem arg_keep (hA : r ∉ wA0) (hL : r ∉ wL) (hB : r ∉ wB0) : B8 m c (Proc.devRef .tc r) = m ((c.tc : Thread nD τ).loc r) :=
  (toB0 hB).trans ((B0_keep hL).trans ((toE0 hA).trans rfl))

variable (m)

/-- Every execution ends with every buffer at the snapshot `B8` and the counters at zero. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = B8 m c (Proc.devRef .tc b)) :=
  (θ_run defs (onTc (τ := τ) main) _).mono (fun r h c b hb => (h c b hb).trans (by rw [final_eq])) (run_fold m ρ)

/-- The frame: the arguments end as they were, the counters at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs (onTc (τ := τ) main) _).mono (fun r h => ⟨fun c =>
    ⟨(h c main_arg0 rfl).trans (arg_keep (by decide) (by decide) (by decide)), (h c main_arg1 rfl).trans (arg_keep (by decide) (by decide) (by decide)),
      (h c main_arg2 rfl).trans (arg_keep (by decide) (by decide) (by decide)), (h c main_arg3 rfl).trans (arg_keep (by decide) (by decide) (by decide)),
      (h c main_arg4 rfl).trans (arg_keep (by decide) (by decide) (by decide))⟩,
    sem_eq_zero_of_no_sems rfl _⟩) (run m ρ)

end Cert.Proof.RefRun
end
-- ==== Proof.KIStep.lean ====
module

public import proofs.«01_k».proof.Proof.Gen.KernelIdeal.Frame
public import proofs.«01_k».proof.Proof.Gen.KernelIdeal.Skeleton
public import Idealize.ShloMosaic.Lib.VecWindow
public import Idealize.ShloMosaic.Lib.Pointwise
public import Idealize.ShloMosaic.Lib.Tactic
public import Idealize.ShloMosaic.Lib.Pipeline.TableIdle

/-! One grid step of the ideal kernel: what the body leaves in the output window and in the four scratch buffers, as
functions of what it found. -/

@[expose] public section

set_option maxRecDepth 16384

noncomputable section

namespace Cert.Proof.KIStep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose ΦA)

variable {F : FTy → Type} [FloatOps F]

local notation "𝕄" => MT nD τ sig Unit (Elt F) ℕ (UR sig nD τ) ℕ

/-- The body calls no variants. -/
abbrev 𝒱₀ : Variants := Variants.none

/-- The four scratch buffers: the last row of `q`, the carried state, the two rings. -/
abbrev s0 : Memref sig .tc .vmem S1x512 .f32 := Memref.whole cc0_scratch0
/-- The carried state. -/
abbrev s1 : Memref sig .tc .vmem S1x512 .f32 := Memref.whole cc0_scratch1
/-- The ring of probabilities. -/
abbrev s2 : Memref sig .tc .vmem S2x1024x1 .f32 := Memref.whole cc0_scratch2
/-- The ring of projections. -/
abbrev s3 : Memref sig .tc .vmem S2x1024x512 .f32 := Memref.whole cc0_scratch3

/-- A whole memref's buffer held at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f
/-- A memref held with contents `X`. -/
abbrev hd (c : Dev nD) {sp : Space} {S : Shape} {e : EltTy} (M : Memref sig .tc sp S e) (X : S.Idx → Elt F e) : sProp 𝕄 :=
  M.view.loc (c : Thread nD τ) ↦[M.view.set]{fullShare} M.view.rep X

/-- The probabilities are read from the slot of the other parity. -/
theorem off1_eq (i : grid0.Coords) : k0_off1 i = ![((i 0).val + 1) % 2, 0, 0] := by
  have h : ∀ n : Fin 17, k0_off1 (fun | 0 => n) = ![(n.val + 1) % 2, 0, 0] := by decide
  exact h (i 0)
/-- The projections are read from the slot of the other parity. -/
theorem off2_eq (i : grid0.Coords) : k0_off2 i = ![((i 0).val + 1) % 2, 0, 0] := by
  have h : ∀ n : Fin 17, k0_off2 (fun | 0 => n) = ![(n.val + 1) % 2, 0, 0] := by decide
  exact h (i 0)
/-- The probabilities are written to the slot of the point's parity. -/
theorem off3_eq (i : grid0.Coords) : k0_off3 i = ![(i 0).val % 2, 0, 0] := by
  have h : ∀ n : Fin 17, k0_off3 (fun | 0 => n) = ![n.val % 2, 0, 0] := by decide
  exact h (i 0)
/-- The projections are written to the slot of the point's parity. -/
theorem off4_eq (i : grid0.Coords) : k0_off4 i = ![(i 0).val % 2, 0, 0] := by
  have h : ∀ n : Fin 17, k0_off4 (fun | 0 => n) = ![n.val % 2, 0, 0] := by decide
  exact h (i 0)

/-- A slot of the ring of probabilities lies within it. -/
theorem inbP (a : ℕ) (h : a < 2) : ∀ k, (![a, 0, 0] : Fin 3 → ℕ) k + S1x1024x1.size k ≤ S2x1024x1.size k := by
  intro k; fin_cases k <;> simp <;> omega
/-- A slot of the ring of projections lies within it. -/
theorem inbY (a : ℕ) (h : a < 2) : ∀ k, (![a, 0, 0] : Fin 3 → ℕ) k + S1x1024x512.size k ≤ S2x1024x512.size k := by
  intro k; fin_cases k <;> simp <;> omega

/-- The raw probabilities read from slot `a` of the first ring. -/
def slotP (a : ℕ) (h : a < 2) (P : S2x1024x1.Idx → Elt F .f32) : FVec F S1024x1 .f32 := k0_pay1 (VecWindow.window P ![a, 0, 0] S1x1024x1.size (inbP a h))
/-- The projected tokens read from slot `a` of the second ring. -/
def slotY (a : ℕ) (h : a < 2) (Y : S2x1024x512.Idx → Elt F .f32) : FVec F S1024x512 .f32 := k0_pay2 (VecWindow.window Y ![a, 0, 0] S1x1024x512.size (inbY a h))

/-- A parity is below two. -/
theorem lt2 (n : ℕ) : n % 2 < 2 := Nat.mod_lt _ (by decide)

/-- The positions of the block's tokens. -/
def ids (i : grid0.Coords) : IVec S1024x1 32 := k0_pay13 (BitVec.ofNat 32 (i 0).val)
/-- The first three comparisons with the starts. -/
def f3 (i : grid0.Coords) (U : S9.Idx → Elt F .i32) : IVec S1024x1 1 := k0_pay14 (BitVec.ofNat 32 (i 0).val) (U (Idealize.ShloMosaic.ix1 0)) (U (Idealize.ShloMosaic.ix1 1)) (U (Idealize.ShloMosaic.ix1 2))
/-- The coefficient of the previous state at each token of the block. -/
def aV (i : grid0.Coords) (U : S9.Idx → Elt F .i32) (p : FVec F S1024x1 .f32) : FVec F S1024x1 .f32 :=
  k0_pay18 p (ids i) (f3 i U) (U (Idealize.ShloMosaic.ix1 3)) (U (Idealize.ShloMosaic.ix1 4)) (U (Idealize.ShloMosaic.ix1 5)) (U (Idealize.ShloMosaic.ix1 6)) (U (Idealize.ShloMosaic.ix1 7))
/-- What each token of the block adds to the state. -/
def bV (i : grid0.Coords) (U : S9.Idx → Elt F .i32) (p : FVec F S1024x1 .f32) (y : FVec F S1024x512 .f32) : FVec F S1024x512 .f32 :=
  k0_pay19 p y (ids i) (f3 i U) (U (Idealize.ShloMosaic.ix1 3)) (U (Idealize.ShloMosaic.ix1 4)) (U (Idealize.ShloMosaic.ix1 5)) (U (Idealize.ShloMosaic.ix1 6)) (U (Idealize.ShloMosaic.ix1 7))
/-- The clamped logarithms of the coefficients. -/
def lV (i : grid0.Coords) (U : S9.Idx → Elt F .i32) (p : FVec F S1024x1 .f32) : FVec F S1024x1 .f32 :=
  k0_pay21 p (ids i) (f3 i U) (U (Idealize.ShloMosaic.ix1 3)) (U (Idealize.ShloMosaic.ix1 4)) (U (Idealize.ShloMosaic.ix1 5)) (U (Idealize.ShloMosaic.ix1 6)) (U (Idealize.ShloMosaic.ix1 7))

/-- The states of a block from its raw probabilities `p`, its projected tokens `y` and the state `z` before it. -/
def zV (i : grid0.Coords) (U : S9.Idx → Elt F .i32) (p : FVec F S1024x1 .f32) (y : FVec F S1024x512 .f32) (z : S1x512.Idx → Elt F .f32) : FVec F S1024x512 .f32 :=
  k0_pay28 (aV i U p) (bV i U p y) k0_pay23 (k0_pay24 k0_pay20 (lV i U p) (Scalar.ofBits .f32 0x00000000#32)) (k0_pay25 k0_pay20 (lV i U p) (Scalar.ofBits .f32 0x00000000#32))
    (k0_pay26 k0_pay20 (lV i U p) (Scalar.ofBits .f32 0x00000000#32)) (k0_pay27 k0_pay20 (lV i U p) (Scalar.ofBits .f32 0x00000000#32)) z
/-- The state carried to the next step. -/
def cV (i : grid0.Coords) (U : S9.Idx → Elt F .i32) (p : FVec F S1024x1 .f32) (y : FVec F S1024x512 .f32) (z : S1x512.Idx → Elt F .f32) : FVec F S1x512 .f32 :=
  k0_pay29 (BitVec.ofNat 32 (i 0).val) (aV i U p) (bV i U p y) k0_pay23 (k0_pay24 k0_pay20 (lV i U p) (Scalar.ofBits .f32 0x00000000#32)) (k0_pay25 k0_pay20 (lV i U p) (Scalar.ofBits .f32 0x00000000#32))
    (k0_pay26 k0_pay20 (lV i U p) (Scalar.ofBits .f32 0x00000000#32)) (k0_pay27 k0_pay20 (lV i U p) (Scalar.ofBits .f32 0x00000000#32)) z
/-- The output block. -/
def oV (i : grid0.Coords) (U : S9.Idx → Elt F .i32) (p : FVec F S1024x1 .f32) (y : FVec F S1024x512 .f32) (z : S1x512.Idx → Elt F .f32) (x : S1024x512.Idx → Elt F .f32) : FVec F S1024x512 .f32 :=
  k0_pay30 (aV i U p) (bV i U p y) k0_pay23 (k0_pay24 k0_pay20 (lV i U p) (Scalar.ofBits .f32 0x00000000#32)) (k0_pay25 k0_pay20 (lV i U p) (Scalar.ofBits .f32 0x00000000#32))
    (k0_pay26 k0_pay20 (lV i U p) (Scalar.ofBits .f32 0x00000000#32)) (k0_pay27 k0_pay20 (lV i U p) (Scalar.ofBits .f32 0x00000000#32)) z x
/-- The raw probabilities of the block just fetched. -/
def pV (i : grid0.Coords) (qc : S1x512.Idx → Elt F .f32) (x : S1024x512.Idx → Elt F .f32) (wq wk : S512x512.Idx → Elt F .f32) : FVec F S1x1024x1 .f32 :=
  k0_pay11 (k0_pay8 i qc x wq wk) (k0_pay9 i qc x wq) (k0_pay10 x wk)

/-- One entry of a table, loaded as a scalar. -/
theorem entry (X : S9.Idx → Elt F .i32) (o : Fin 1 → ℕ) (k : Fin 9) (ho : o 0 = k.val) (inb : ∀ a, o a + S1.size a ≤ S9.size a)
    (h : 0 < (Rect.unit (s := S9) o S1.size inb).toLoadRect.shape.numel) :
    X ((Rect.unit (s := S9) o S1.size inb).toLoadRect.idx (Shape.Idx.first h)) = X (Idealize.ShloMosaic.ix1 k) := by
  refine congrArg X (funext fun a => Fin.ext ?_)
  fin_cases a
  show o 0 + _ = k.val
  simp [ho, Shape.Idx.first]

/-- What the body reads of the ring of probabilities is the slot of the other parity. -/
theorem readAt_slotP (c : Dev nD) (i : grid0.Coords) (g : Buf (Elt F) (s2.view.loc (c : Thread nD τ))) (inb) :
    k0_pay1 (s2.view.readAt (Elt F) (Rect.unit (s := S2x1024x1) (k0_off1 i) S1x1024x1.size inb).toLoadRect g) = slotP _ (lt2 ((i 0).val + 1)) (s2.view.read (Elt F) g) :=
  congrArg k0_pay1 (View.readAt_unit s2.view g inb (off1_eq i) (inbP _ (lt2 _)))
/-- What the body reads of the ring of projections is the slot of the other parity. -/
theorem readAt_slotY (c : Dev nD) (i : grid0.Coords) (g : Buf (Elt F) (s3.view.loc (c : Thread nD τ))) (inb) :
    k0_pay2 (s3.view.readAt (Elt F) (Rect.unit (s := S2x1024x512) (k0_off2 i) S1x1024x512.size inb).toLoadRect g) = slotY _ (lt2 ((i 0).val + 1)) (s3.view.read (Elt F) g) :=
  congrArg k0_pay2 (View.readAt_unit s3.view g inb (off2_eq i) (inbY _ (lt2 _)))

/-- One step: the six inputs keep their contents, the output window gets `oV`, the carried row `k0_pay7`, the carried state
`cV`, and slot `i % 2` of each ring the new block's values. -/
theorem run (c : Dev nD) (i : grid0.Coords)
    (M1 : Memref sig .tc .smem S9 .i32) (h1 : M1.IsWhole) (M2 : Memref sig .tc .vmem S1024x512 .f32) (h2 : M2.IsWhole)
    (M3 : Memref sig .tc .vmem S1024x512 .f32) (h3 : M3.IsWhole) (M4 : Memref sig .tc .vmem S512x512 .f32) (h4 : M4.IsWhole)
    (M5 : Memref sig .tc .vmem S512x512 .f32) (h5 : M5.IsWhole) (M6 : Memref sig .tc .vmem S512x512 .f32) (h6 : M6.IsWhole)
    (M7 : Memref sig .tc .vmem S1024x512 .f32) (h7 : M7.IsWhole)
    (X1 : S9.Idx → Elt F .i32) (X2 X3 : S1024x512.Idx → Elt F .f32) (X4 X5 X6 : S512x512.Idx → Elt F .f32) (X7 : S1024x512.Idx → Elt F .f32)
    (q0 : S1x512.Idx → Elt F .f32) (z0 : S1x512.Idx → Elt F .f32) (p0 : S2x1024x1.Idx → Elt F .f32) (y0 : S2x1024x512.Idx → Elt F .f32)
    (g0 : Buf (Elt F) (s0.view.loc (c : Thread nD τ))) (g1 : Buf (Elt F) (s1.view.loc (c : Thread nD τ))) (g2 : Buf (Elt F) (s2.view.loc (c : Thread nD τ))) (g3 : Buf (Elt F) (s3.view.loc (c : Thread nD τ)))
    (e0 : s0.view.read (Elt F) g0 = q0) (e1 : s1.view.read (Elt F) g1 = z0) (e2 : s2.view.read (Elt F) g2 = p0) (e3 : s3.view.read (Elt F) g3 = y0)
    (Q : PUnit → sProp 𝕄) :
    iprop(owns (c : Thread nD τ) M1 fullShare X1 ∗ owns (c : Thread nD τ) M2 fullShare X2 ∗ owns (c : Thread nD τ) M3 fullShare X3
      ∗ owns (c : Thread nD τ) M4 fullShare X4 ∗ owns (c : Thread nD τ) M5 fullShare X5 ∗ owns (c : Thread nD τ) M6 fullShare X6
      ∗ owns (c : Thread nD τ) M7 fullShare X7
      ∗ pt c s0 g0 ∗ pt c s1 g1 ∗ pt c s2 g2 ∗ pt c s3 g3
      ∗ (iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare (oV i X1 (slotP _ (lt2 ((i 0).val + 1)) p0) (slotY _ (lt2 ((i 0).val + 1)) y0) z0 X3)
        ∗ (∃ g, ⌜s0.view.read (Elt F) g = (k0_pay7 X2 X4)⌝ ∗ pt c s0 g)
        ∗ (∃ g, ⌜s1.view.read (Elt F) g = (cV i X1 (slotP _ (lt2 ((i 0).val + 1)) p0) (slotY _ (lt2 ((i 0).val + 1)) y0) z0)⌝ ∗ pt c s1 g)
        ∗ (∃ g, ⌜s2.view.read (Elt F) g = (VecWindow.put (s := S2x1024x1) p0 ![(i 0).val % 2, 0, 0] S1x1024x1.size (pV i q0 X2 X4 X5))⌝ ∗ pt c s2 g)
        ∗ (∃ g, ⌜s3.view.read (Elt F) g = (VecWindow.put (s := S2x1024x512) y0 ![(i 0).val % 2, 0, 0] S1x1024x512.size (k0_pay12 (k0_pay5 X2 X6)))⌝ ∗ pt c s3 g)) -∗ Q ⟨⟩))
    ⊢ wp frame (wpE (defs₀ (F := F)) 𝒱₀ c none) Set.univ
        (cc0__fused i M1 h1 M2 h2 M3 h3 M4 h4 M5 h5 M6 h6 M7 h7 s0 (Memref.isWhole_whole _) s1 (Memref.isWhole_whole _) s2 (Memref.isWhole_whole _) s3 (Memref.isWhole_whole _)) Q := by
  simp only [owns_eq_rep (c : Thread nD τ) M1, owns_eq_rep (c : Thread nD τ) M2, owns_eq_rep (c : Thread nD τ) M3, owns_eq_rep (c : Thread nD τ) M4,
    owns_eq_rep (c : Thread nD τ) M5, owns_eq_rep (c : Thread nD τ) M6]
  iintro ⟨H1, H2, H3, H4, H5, H6, H7, G0, G1, G2, G3, Hk⟩
  ihave H7 := (rep_of_owns (c : Thread nD τ) M7 fullShare _) $$ H7
  simp only [cc0__fused_eq_skeleton]; unfold cc0__fused_skel
  sl_exec_parts
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap; · iexact H7
    ipureintro
    rw [View.read_writes_full]
    subst e1 e2 e3
    delta run.sl.r_23 run.sl.r_22 run.sl.r_21 run.sl.r_20 run.sl.r_19 run.sl.r_18 run.sl.r_17 run.sl.r_16 run.sl.r_15 run.sl.r_14 run.sl.r_13 run.sl.r_12 run.sl.r_11 run.sl.r_10 run.sl.r_9 run.sl.r_8 run.sl.r_7 run.sl.r_6 run.sl.r_5 run.sl.r_4 run.sl.r_3 run.sl.r_2 run.sl.r_1 run.sl.r run.sl.cst_43
    simp only [View.readAt_rep M1.view]
    rw [entry X1 ![0] 0 rfl, entry X1 ![1] 1 rfl, entry X1 ![2] 2 rfl, entry X1 ![3] 3 rfl, entry X1 ![4] 4 rfl, entry X1 ![5] 5 rfl, entry X1 ![6] 6 rfl, entry X1 ![7] 7 rfl]
    rw [readAt_slotP, readAt_slotY, View.readAt_full s1.view g1, View.readAt_rep_full M3.view X3]
    unfold oV aV bV lV ids f3
    rfl
  isplitl [G0]
  · iexists _; isplitr; swap; · iexact G0
    ipureintro
    delta run.sl.G0_1
    rw [View.read_writes_full]
    rw [View.readAt_rep_full M2.view X2, View.readAt_rep_full M4.view X4]
  isplitl [G1]
  · iexists _; isplitr; swap; · iexact G1
    ipureintro
    subst e1 e2 e3
    delta run.sl.r_23 run.sl.r_22 run.sl.r_21 run.sl.r_20 run.sl.r_19 run.sl.r_18 run.sl.r_17 run.sl.r_16 run.sl.r_15 run.sl.r_14 run.sl.r_13 run.sl.r_12 run.sl.r_11 run.sl.r_10 run.sl.r_9 run.sl.r_8 run.sl.r_7 run.sl.r_6 run.sl.r_5 run.sl.r_4 run.sl.r_3 run.sl.r_2 run.sl.r_1 run.sl.r run.sl.cst_43
    rw [View.read_writes_full]
    simp only [View.readAt_rep M1.view]
    rw [entry X1 ![0] 0 rfl, entry X1 ![1] 1 rfl, entry X1 ![2] 2 rfl, entry X1 ![3] 3 rfl, entry X1 ![4] 4 rfl, entry X1 ![5] 5 rfl, entry X1 ![6] 6 rfl, entry X1 ![7] 7 rfl]
    rw [readAt_slotP, readAt_slotY, View.readAt_full s1.view g1]
    unfold cV aV bV lV ids f3
    rfl
  isplitl [G2]
  · iexists _; isplitr; swap; · iexact G2
    ipureintro
    delta run.sl.G2_1
    subst e0 e2
    delta run.sl.r_23 run.sl.r_22 run.sl.r_21 run.sl.r_20 run.sl.r_19 run.sl.r_18 run.sl.r_17 run.sl.r_16 run.sl.r_15 run.sl.r_14 run.sl.r_13 run.sl.r_12 run.sl.r_11 run.sl.r_10 run.sl.r_9 run.sl.r_8 run.sl.r_7 run.sl.r_6 run.sl.r_5 run.sl.r_4 run.sl.r_3 run.sl.r_2 run.sl.r_1 run.sl.r run.sl.cst_43
    rw [View.read_writes_cons_put s2.view g2 _ _ _ (off3_eq i), View.readAt_full s0.view g0, View.readAt_rep_full M2.view X2, View.readAt_rep_full M4.view X4, View.readAt_rep_full M5.view X5]
    rfl
  iexists _; isplitr; swap; · iexact G3
  ipureintro
  delta run.sl.G3_1
  subst e3
  delta run.sl.r_2
  rw [View.read_writes_cons_put s3.view g3 _ _ _ (off4_eq i), View.readAt_rep_full M2.view X2, View.readAt_rep_full M6.view X6]
  rfl

end Cert.Proof.KIStep
end
-- ==== Proof.KIRun.lean ====
module

public import proofs.«01_k».proof.Proof.KIStep
public import Idealize.ShloMosaic.Lib.Pipeline.DatRel
public import Idealize.ShloMosaic.Lib.Pipeline.ArrRel
public import Idealize.ShloMosaic.Lib.Pipeline.Value

/-! The ideal kernel's run, with an invariant of the four scratch buffers carried from step to step: given that every step
keeps the invariant and that the block it writes then meets a relation, every element of the result meets it. -/

@[expose] public section

set_option maxRecDepth 16384

noncomputable section

namespace Cert.Proof.KIRun
open Cert.KernelIdeal Cert.KernelIdeal.Gen Cert.Proof.KIStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A statement about the contents of the four scratch buffers. -/
abbrev Scr (F : FTy → Type) : Type :=
  (S1x512.Idx → Elt F .f32) → (S1x512.Idx → Elt F .f32) → (S2x1024x1.Idx → Elt F .f32) → (S2x1024x512.Idx → Elt F .f32) → Prop

variable (Inv : Dev nD → ℕ → Scr F) (R : Dev nD → Fin cfg0.N → (S1024x512.Idx → Elt F .f32) → Prop)

/-- Every step keeps the invariant and leaves a block that meets the relation. -/
def Steps : Prop := ∀ (c : Dev nD) (t : Fin cfg0.N) (q z p y), Inv c t.val q z p y →
  Inv c (t.val + 1) (k0_pay7 (iblk m c 1 t) (iblk m c 3 t))
      (cV (cfg0.grid.coords t) (iblk m c 0 t) (slotP _ (lt2 (((cfg0.grid.coords t) 0).val + 1)) p) (slotY _ (lt2 (((cfg0.grid.coords t) 0).val + 1)) y) z)
      (VecWindow.put (s := S2x1024x1) p ![((cfg0.grid.coords t) 0).val % 2, 0, 0] S1x1024x1.size (pV (cfg0.grid.coords t) q (iblk m c 1 t) (iblk m c 3 t) (iblk m c 4 t)))
      (VecWindow.put (s := S2x1024x512) y ![((cfg0.grid.coords t) 0).val % 2, 0, 0] S1x1024x512.size (k0_pay12 (k0_pay5 (iblk m c 1 t) (iblk m c 5 t))))
    ∧ R c t (oV (cfg0.grid.coords t) (iblk m c 0 t) (slotP _ (lt2 (((cfg0.grid.coords t) 0).val + 1)) p) (slotY _ (lt2 (((cfg0.grid.coords t) 0).val + 1)) y) z (iblk m c 2 t))

/-- The scratch buffers, meeting the invariant before step `t`. -/
def scr (c : Dev nD) (t : ℕ) : sProp 𝕄 :=
  iprop(∃ g0 g1 g2 g3, ⌜Inv c t (s0.view.read (Elt F) g0) (s1.view.read (Elt F) g1) (s2.view.read (Elt F) g2) (s3.view.read (Elt F) g3)⌝
    ∗ pt c s0 g0 ∗ pt c s1 g1 ∗ pt c s2 g2 ∗ pt c s3 g3)

/-- The arrays as launched, each input's staging buffer left at its block, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed ⟨6, by decide⟩ t
  Φ t := iprop(scr Inv c t.val ∗ ∃ r, prngReg c r)
  q w := Pipeline.shareOf spec0 w
  owed _ := 0

/-- Input 0's staging buffer is left at its block. -/
theorem after0_0 (c : Dev nD) (t : Fin cfg0.N) : (dats m Inv 0 c).after 0 t = iblk m c 0 t := by dsimp only [dats]
/-- Input 1's staging buffer is left at its block. -/
theorem after0_1 (c : Dev nD) (t : Fin cfg0.N) : (dats m Inv 0 c).after 1 t = iblk m c 1 t := by dsimp only [dats]
/-- Input 2's staging buffer is left at its block. -/
theorem after0_2 (c : Dev nD) (t : Fin cfg0.N) : (dats m Inv 0 c).after 2 t = iblk m c 2 t := by dsimp only [dats]
/-- Input 3's staging buffer is left at its block. -/
theorem after0_3 (c : Dev nD) (t : Fin cfg0.N) : (dats m Inv 0 c).after 3 t = iblk m c 3 t := by dsimp only [dats]
/-- Input 4's staging buffer is left at its block. -/
theorem after0_4 (c : Dev nD) (t : Fin cfg0.N) : (dats m Inv 0 c).after 4 t = iblk m c 4 t := by dsimp only [dats]
/-- Input 5's staging buffer is left at its block. -/
theorem after0_5 (c : Dev nD) (t : Fin cfg0.N) : (dats m Inv 0 c).after 5 t = iblk m c 5 t := by dsimp only [dats]
/-- Input 0's staging buffer holds its block when the body starts. -/
theorem before0_0 (c : Dev nD) (t : Fin cfg0.N) (d) : (dats m Inv 0 c).before 0 t d = iblk m c 0 t :=
  before0_0_of m (dats m Inv 0 c) rfl (after0_0 m Inv c) t d
/-- Input 1's staging buffer holds its block when the body starts. -/
theorem before0_1 (c : Dev nD) (t : Fin cfg0.N) (d) : (dats m Inv 0 c).before 1 t d = iblk m c 1 t :=
  before0_1_of m (dats m Inv 0 c) rfl (after0_1 m Inv c) t d
/-- Input 2's staging buffer holds its block when the body starts. -/
theorem before0_2 (c : Dev nD) (t : Fin cfg0.N) (d) : (dats m Inv 0 c).before 2 t d = iblk m c 2 t :=
  before0_2_of m (dats m Inv 0 c) rfl (after0_2 m Inv c) t d
/-- Input 3's staging buffer holds its block when the body starts. -/
theorem before0_3 (c : Dev nD) (t : Fin cfg0.N) (d) : (dats m Inv 0 c).before 3 t d = iblk m c 3 t :=
  before0_3_of m (dats m Inv 0 c) rfl (after0_3 m Inv c) t d
/-- Input 4's staging buffer holds its block when the body starts. -/
theorem before0_4 (c : Dev nD) (t : Fin cfg0.N) (d) : (dats m Inv 0 c).before 4 t d = iblk m c 4 t :=
  before0_4_of m (dats m Inv 0 c) rfl (after0_4 m Inv c) t d
/-- Input 5's staging buffer holds its block when the body starts. -/
theorem before0_5 (c : Dev nD) (t : Fin cfg0.N) (d) : (dats m Inv 0 c).before 5 t d = iblk m c 5 t :=
  before0_5_of m (dats m Inv 0 c) rfl (after0_5 m Inv c) t d

/-- The relation the output window is held to. -/
def Rl (c : Dev nD) : (w : Fin cfg0.W) → Fin cfg0.N → ((cfg0.win w).block.Idx → Elt F (cfg0.win w).elt) → Prop := fun w t X =>
  match w with
  | ⟨6, _⟩ => R c t X
  | ⟨0, _⟩ | ⟨1, _⟩ | ⟨2, _⟩ | ⟨3, _⟩ | ⟨4, _⟩ | ⟨5, _⟩ => True

/-- The grid's one coordinate at a point is the point's number. -/
theorem coords_val (t : Fin cfg0.N) : ((cfg0.grid.coords t) 0).val = t.val := by
  have h : ∀ t : Fin 17, ((grid0.coords t) 0).val = t.val := by decide
  exact h t

variable {m} {Inv} {R}

/-- The body meets its obligation at every point. -/
theorem body_obligation (hs : Steps m Inv R) (c : Dev nD) :
    BodyObligationRel (dats (F := F) m Inv 0 c) (defs₀ (F := F)) 𝒱₀ () Set.univ (fun w => w.val == 6) (Rl R c) := fun t => by
  rw [bigSep_W0, bigSep_W0]
  sl_whnfR [defs₀, Defs.onTc]
  simp only [before0_0, before0_1, before0_2, before0_3, before0_4, before0_5]
  rw [show (dats m Inv 0 c).owesAt () t.succ = (dats m Inv 0 c).owesAt () t.castSucc from rfl, after0_0, after0_1, after0_2, after0_3, after0_4, after0_5]
  rw [show (dats m Inv 0 c).Φ t.castSucc = iprop(scr Inv c t.val ∗ ∃ r, prngReg c r) from rfl, show (dats m Inv 0 c).Φ t.succ = iprop(scr Inv c (t.val + 1) ∗ ∃ r, prngReg c r) from rfl]
  unfold scr
  simp only [show ((0 : Fin cfg0.W).val == 6) = false from rfl, show ((1 : Fin cfg0.W).val == 6) = false from rfl, show ((2 : Fin cfg0.W).val == 6) = false from rfl,
    show ((3 : Fin cfg0.W).val == 6) = false from rfl, show ((4 : Fin cfg0.W).val == 6) = false from rfl, show ((5 : Fin cfg0.W).val == 6) = false from rfl,
    show ((6 : Fin cfg0.W).val == 6) = true from rfl]
  iintro ⟨⟨⟨%g0, %g1, %g2, %g3, %hI, Hs0, Hs1, Hs2, Hs3⟩, Hr⟩, Ho, ⟨%d0, H0⟩, ⟨%d1, H1⟩, ⟨%d2, H2⟩, ⟨%d3, H3⟩, ⟨%d4, H4⟩, ⟨%d5, H5⟩, ⟨%X7, -, H6⟩⟩
  iapply (run c (cfg0.grid.coords t) _ _ _ _ _ _ _ _ _ _ _ _ _ _ (iblk m c 0 t) (iblk m c 1 t) (iblk m c 2 t) (iblk m c 3 t) (iblk m c 4 t) (iblk m c 5 t) X7 _ _ _ _ g0 g1 g2 g3 rfl rfl rfl rfl _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs0]; · iexact Hs0
  isplitl [Hs1]; · iexact Hs1
  isplitl [Hs2]; · iexact Hs2
  isplitl [Hs3]; · iexact Hs3
  iintro ⟨H0, H1, H2, H3, H4, H5, H6, ⟨%k0, %e0, Hs0⟩, ⟨%k1, %e1, Hs1⟩, ⟨%k2, %e2, Hs2⟩, ⟨%k3, %e3, Hs3⟩⟩
  isplitl [Hs0 Hs1 Hs2 Hs3 Hr]
  · isplitr [Hr]; swap; · iexact Hr
    iexists k0; iexists k1; iexists k2; iexists k3
    isplitr
    · ipureintro
      rw [e0, e1, e2, e3]
      exact (hs c t _ _ _ _ hI).1
    isplitl [Hs0]; · iexact Hs0
    isplitl [Hs1]; · iexact Hs1
    isplitl [Hs2]; · iexact Hs2
    iexact Hs3
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _
  isplitr; swap; · iexact H6
  ipureintro
  exact (hs c t _ _ _ _ hI).2

/-- The invariant of step 0 costs nothing: the buffers may hold anything. -/
theorem hin (h0 : ∀ c q z p y, Inv c 0 q z p y) (c : Dev nD) : (ΦA spec0 c : sProp 𝕄) ⊢ (dats m Inv 0 c).Φ 0 := by
  rw [show (dats m Inv 0 c).Φ 0 = iprop(scr Inv c 0 ∗ ∃ r, prngReg c r) from rfl]
  unfold ΦA scr; rw [scopedRest0_eq]
  iintro ⟨⟨⟨%g0, Hs0⟩, ⟨%g1, Hs1⟩, ⟨%g2, Hs2⟩, ⟨%g3, Hs3⟩⟩, Hr⟩
  isplitr [Hr]; swap; · iexact Hr
  iexists g0; iexists g1; iexists g2; iexists g3
  isplitr
  · ipureintro
    exact h0 c _ _ _ _
  isplitl [Hs0]; · iexact Hs0
  isplitl [Hs1]; · iexact Hs1
  isplitl [Hs2]; · iexact Hs2
  iexact Hs3

/-- At the end the buffers are given back, at whatever they hold. -/
theorem hout (c : Dev nD) : (dats m Inv 0 c).Φ (Fin.last cfg0.N) ⊢ (ΦA spec0 c : sProp 𝕄) := by
  rw [show (dats m Inv 0 c).Φ (Fin.last cfg0.N) = iprop(scr Inv c (Fin.last cfg0.N).val ∗ ∃ r, prngReg c r) from rfl]
  unfold ΦA scr; rw [scopedRest0_eq]
  iintro ⟨⟨%g0, %g1, %g2, %g3, %hI, Hs0, Hs1, Hs2, Hs3⟩, Hr⟩
  isplitr [Hr]; swap; · iexact Hr
  isplitl [Hs0]; · iexists g0; iexact Hs0
  isplitl [Hs1]; · iexists g1; iexact Hs1
  isplitl [Hs2]; · iexists g2; iexact Hs2
  iexists g3; iexact Hs3

/-- At point `t` the result's block is the one before `t`. -/
theorem index6a : ∀ t : Fin grid0.N, win0_6.index t 0 = t.val - 1 := by decide
/-- The result's blocks span all columns. -/
theorem index6b : ∀ t : Fin grid0.N, win0_6.index t 1 = 0 := by decide
/-- At point `t` the tokens read are block `t`, at the last point the last block again. -/
theorem index1a : ∀ t : Fin grid0.N, win0_1.index t 0 = min t.val 15 := by decide
/-- The tokens' blocks span all columns. -/
theorem index1b : ∀ t : Fin grid0.N, win0_1.index t 1 = 0 := by decide
/-- At point `t` the tokens added to the state are the block before `t`. -/
theorem index2a : ∀ t : Fin grid0.N, win0_2.index t 0 = t.val - 1 := by decide
/-- These blocks span all columns. -/
theorem index2b : ∀ t : Fin grid0.N, win0_2.index t 1 = 0 := by decide
/-- The table of starts is read whole. -/
theorem index0a : ∀ t : Fin grid0.N, win0_0.index t 0 = 0 := by decide
/-- The first weight matrix is read from its first row. -/
theorem index3a : ∀ t : Fin grid0.N, win0_3.index t 0 = 0 := by decide
/-- The first weight matrix is read from its first column. -/
theorem index3b : ∀ t : Fin grid0.N, win0_3.index t 1 = 0 := by decide
/-- The second weight matrix is read from its first row. -/
theorem index4a : ∀ t : Fin grid0.N, win0_4.index t 0 = 0 := by decide
/-- The second weight matrix is read from its first column. -/
theorem index4b : ∀ t : Fin grid0.N, win0_4.index t 1 = 0 := by decide
/-- The third weight matrix is read from its first row. -/
theorem index5a : ∀ t : Fin grid0.N, win0_5.index t 0 = 0 := by decide
/-- The third weight matrix is read from its first column. -/
theorem index5b : ∀ t : Fin grid0.N, win0_5.index t 1 = 0 := by decide
/-- From point 1 on each point writes its block of the result back. -/
theorem flush6 : ∀ t : Fin grid0.N, 1 ≤ t.val → win0_6.flush t = true := by decide
/-- A point that writes its block of the result back is not the first. -/
theorem flush6' : ∀ t : Fin grid0.N, win0_6.flush t = true → 1 ≤ t.val := by decide

/-- There are 17 points. -/
theorem lt17 (t : Fin cfg0.N) : t.val < 17 := t.isLt

variable (m)
/-- The table of starts, at every step. -/
theorem iblk0 (c : Dev nD) (t : Fin cfg0.N) (y : S9.Idx) : iblk m c 0 t y = m ((c : Thread nD τ).loc main_arg1) y := by
  refine congrArg (m ((c : Thread nD τ).loc main_arg1)) (funext fun a => Fin.ext ?_)
  have e := win0_0.rect_emb_val t y a
  refine e.trans ?_
  fin_cases a
  show win0_0.index t 0 * 9 + (y 0).val = (y 0).val
  rw [index0a]; omega
/-- The block of tokens read for the projections. -/
theorem iblk1 (c : Dev nD) (t : Fin cfg0.N) (r : Fin 1024) (d : Fin 512) :
    iblk m c 1 t (ix2 r d) = m ((c : Thread nD τ).loc main_arg0) (ix2 ⟨1024 * min t.val 15 + r.val, by omega⟩ d) := by
  refine congrArg (m ((c : Thread nD τ).loc main_arg0)) (funext fun a => Fin.ext ?_)
  have e := win0_1.rect_emb_val t (ix2 r d) a
  refine e.trans ?_
  fin_cases a
  · show win0_1.index t 0 * 1024 + r.val = 1024 * min t.val 15 + r.val
    rw [index1a]; omega
  · show win0_1.index t 1 * 512 + d.val = d.val
    rw [index1b]; omega
/-- The block of tokens the output is added to. -/
theorem iblk2 (c : Dev nD) (t : Fin cfg0.N) (r : Fin 1024) (d : Fin 512) :
    iblk m c 2 t (ix2 r d) = m ((c : Thread nD τ).loc main_arg0) (ix2 ⟨1024 * (t.val - 1) + r.val, by have := lt17 t; omega⟩ d) := by
  refine congrArg (m ((c : Thread nD τ).loc main_arg0)) (funext fun a => Fin.ext ?_)
  have e := win0_2.rect_emb_val t (ix2 r d) a
  refine e.trans ?_
  fin_cases a
  · show win0_2.index t 0 * 1024 + r.val = 1024 * (t.val - 1) + r.val
    rw [index2a]; omega
  · show win0_2.index t 1 * 512 + d.val = d.val
    rw [index2b]; omega
/-- The first weight matrix's block is the matrix. -/
theorem iblk3 (c : Dev nD) (t : Fin cfg0.N) (r d : Fin 512) : iblk m c 3 t (ix2 r d) = m ((c : Thread nD τ).loc main_arg2) (ix2 r d) := by
  refine congrArg (m ((c : Thread nD τ).loc main_arg2)) (funext fun a => Fin.ext ?_)
  have e := win0_3.rect_emb_val t (ix2 r d) a
  refine e.trans ?_
  fin_cases a
  · show win0_3.index t 0 * 512 + r.val = r.val
    rw [index3a]; omega
  · show win0_3.index t 1 * 512 + d.val = d.val
    rw [index3b]; omega
/-- The second weight matrix's block is the matrix. -/
theorem iblk4 (c : Dev nD) (t : Fin cfg0.N) (r d : Fin 512) : iblk m c 4 t (ix2 r d) = m ((c : Thread nD τ).loc main_arg3) (ix2 r d) := by
  refine congrArg (m ((c : Thread nD τ).loc main_arg3)) (funext fun a => Fin.ext ?_)
  have e := win0_4.rect_emb_val t (ix2 r d) a
  refine e.trans ?_
  fin_cases a
  · show win0_4.index t 0 * 512 + r.val = r.val
    rw [index4a]; omega
  · show win0_4.index t 1 * 512 + d.val = d.val
    rw [index4b]; omega
/-- The third weight matrix's block is the matrix. -/
theorem iblk5 (c : Dev nD) (t : Fin cfg0.N) (r d : Fin 512) : iblk m c 5 t (ix2 r d) = m ((c : Thread nD τ).loc main_arg4) (ix2 r d) := by
  refine congrArg (m ((c : Thread nD τ).loc main_arg4)) (funext fun a => Fin.ext ?_)
  have e := win0_5.rect_emb_val t (ix2 r d) a
  refine e.trans ?_
  fin_cases a
  · show win0_5.index t 0 * 512 + r.val = r.val
    rw [index5a]; omega
  · show win0_5.index t 1 * 512 + d.val = d.val
    rw [index5b]; omega

/-- The relation of a written block with the result `G`: its row `r` is row `1024 (t - 1) + r` of `G`. -/
def Blk (G : Dev nD → Fin 16384 → Fin 512 → Elt F .f32) (c : Dev nD) (t : Fin cfg0.N) (X : S1024x512.Idx → Elt F .f32) : Prop :=
  1 ≤ t.val → ∀ (r : Fin 1024) (d : Fin 512), X (ix2 r d) = G c ⟨1024 * (t.val - 1) + r.val, by have := lt17 t; omega⟩ d

/-- Every row of the result lies in a block that is written back. -/
theorem cover (i : S16384x512.Idx) : ∃ t : Fin cfg0.N, (cfg0.win 6).flush t = true ∧ i ∈ ((cfg0.win 6).blk t).view.set := by
  have h0 : (i 0).val < 16384 := (i 0).isLt
  have hN : (i 0).val / 1024 + 1 < 17 := by omega
  refine ⟨⟨(i 0).val / 1024 + 1, hN⟩, flush6 _ (by show 1 ≤ (i 0).val / 1024 + 1; omega), ?_⟩
  refine Finset.mem_map.mpr ⟨(ix2 ⟨(i 0).val % 1024, Nat.mod_lt _ (by decide)⟩ (i 1) : S1024x512.Idx), Finset.mem_univ _, funext fun a => Fin.ext ?_⟩
  have e := win0_6.rect_emb_val ⟨(i 0).val / 1024 + 1, hN⟩ (ix2 ⟨(i 0).val % 1024, Nat.mod_lt _ (by decide)⟩ (i 1) : S1024x512.Idx) a
  refine e.trans ?_
  fin_cases a
  · show win0_6.index ⟨(i 0).val / 1024 + 1, hN⟩ 0 * 1024 + (i 0).val % 1024 = (i 0).val
    rw [index6a]; show ((i 0).val / 1024 + 1 - 1) * 1024 + (i 0).val % 1024 = (i 0).val; omega
  · show win0_6.index ⟨(i 0).val / 1024 + 1, hN⟩ 1 * 512 + (i 1).val = (i 1).val
    rw [index6b]; omega

set_option backward.isDefEq.respectTransparency.types false in
/-- An element of a written block is the result's element at its place. -/
theorem blk_elt (G : Dev nD → Fin 16384 → Fin 512 → Elt F .f32) (c : Dev nD) (t : Fin cfg0.N) (h1 : 1 ≤ t.val)
    (X : S1024x512.Idx → Elt F .f32) (hX : Blk G c t X) (y : S1024x512.Idx) :
    X y = (fun i : S16384x512.Idx => G c (i 0) (i 1)) (((cfg0.win 6).blk t).view.emb y) := by
  have e0 := win0_6.rect_emb_val t y 0
  have e1 := win0_6.rect_emb_val t y 1
  rw [index6a] at e0
  rw [index6b] at e1
  have hy : X y = X (ix2 (y 0) (y 1)) := congrArg X (funext fun a => by fin_cases a <;> rfl)
  refine hy.trans ((hX h1 (y 0) (y 1)).trans ?_)
  show G c _ _ = G c (win0_6.rect t |>.emb y 0) (win0_6.rect t |>.emb y 1)
  congr 1
  · refine Fin.ext (Eq.trans ?_ e0.symm)
    show 1024 * (t.val - 1) + (y 0).val = (t.val - 1) * 1024 + (y 0).val
    omega
  · refine Fin.ext (Eq.trans ?_ e1.symm)
    show (y 1).val = 0 * 512 + (y 1).val
    omega

set_option backward.isDefEq.respectTransparency.types false in
/-- The run: given an invariant that every step keeps and under which every written block is its block of `G`, the result is `G`
and the arguments are unchanged. -/
theorem result (Inv : Dev nD → ℕ → Scr F) (G : Dev nD → Fin 16384 → Fin 512 → Elt F .f32)
    (h0 : ∀ c q z p y, Inv c 0 q z p y) (hs : Steps m Inv (Blk G)) :
    θ_run defs (onTc (τ := τ) (main (F := F))) ⟨m, fun _ => 0, ρ⟩ (fun r => ∀ c : Dev nD,
      r.2.mem ((c.tc : Thread nD τ).loc main_v0) = (fun i : S16384x512.Idx => G c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.RDat.θ_run_frame_track_shared cfgs (0 : Fin 1) launch₀0 defs₀ 𝒱₀
    (fun c => (dats m Inv 0 c).toRRel (fun w => w.val == 6) (Rl (Blk G) c)) m ρ main
    (hbody := fun c => (body_obligation hs c).toRRel) (hq := fun _ _ _ => rfl)
    (howed := fun _ _ => rfl) (V := V m) (hmain := hmain m 𝒱₀) (hA := fun _ _ => rfl) (hin := hin (m := m) h0) (hout := hout (m := m))
    (Q' := _) (hQ' := fun r h c => ⟨by
      obtain ⟨after, hL, hA⟩ := h.1.exists_exact c
      refine (hA 6).trans (funext fun i => ?_)
      refine Dat.arrAt_forall_of_cover _ (6 : Fin cfg0.W) (fun i v => v = (fun i : S16384x512.Idx => G c (i 0) (i 1)) i) ?_ ?_ i
      · intro t hf y
        exact blk_elt G c t (flush6' t hf) _ (Dat.toRRel_leaves _ rfl (hL 6 t hf)) y
      · intro i
        exact cover i,
      (h.1.arr_in c 2 rfl).trans (V_main_arg0 m c), (h.1.arr_in c 0 rfl).trans (V_main_arg1 m c),
      (h.1.arr_in c 3 rfl).trans (V_main_arg2 m c), (h.1.arr_in c 4 rfl).trans (V_main_arg3 m c), (h.1.arr_in c 5 rfl).trans (V_main_arg4 m c)⟩)

end Cert.Proof.KIRun
end
-- ==== Proof.Spec.lean ====
module

public import Idealize.ShloMosaic.PureOps.Ideal
public import Idealize.ShloMosaic.PureOps.Ideal.Laws
public import Idealize.ShloMosaic.Lib.IdealHost
public import Mathlib.Analysis.SpecialFunctions.Log.Basic
public import Mathlib.Data.EReal.Operations
public import Mathlib.Data.EReal.Inv

/-! What the problem computes, token by token over the extended reals: projections, boundary probabilities, the selection of
boundaries and the recurrence of the state. Both programs are shown equal to it. -/

@[expose] public section

noncomputable section

namespace Cert.Proof.Spec
open Idealize.ShloMosaic

/-- The tokens: row `t` (any natural number), column `d`. -/
abbrev Toks : Type := ℕ → Fin 512 → EReal
/-- A weight matrix. -/
abbrev Wt : Type := Fin 512 → Fin 512 → EReal

/-- A projection of the tokens. -/
def proj (x : Toks) (w : Wt) (t : ℕ) (e : Fin 512) : EReal := ∑ k, x t k * w k e

/-- The least probability. -/
def lo : EReal := Ideal.ofBits .f32 0x38D1B717#32
/-- The greatest probability. -/
def hi : EReal := Ideal.ofBits .f32 0x3F7FF972#32
/-- The threshold of a boundary. -/
def half : EReal := Ideal.ofBits .f32 0x3F000000#32
/-- The number added to the product of norms. -/
def eps : EReal := Ideal.ofBits .f32 0x358637BD#32
/-- The divisor of one minus the cosine. -/
def two : EReal := Ideal.ofBits .f32 0x40000000#32

/-- A probability from an inner product and two squared norms. -/
def prob (n a b : EReal) : EReal := min 1 (max 0 (Ideal.div (1 - Ideal.div n (Ideal.sqrt a * Ideal.sqrt b + eps)) two))

/-- The raw probability of a boundary at token `t`, from the query of the token before and the key of `t`. -/
def praw (x : Toks) (wq wk : Wt) (t : ℕ) : EReal :=
  prob (∑ e, proj x wq (t - 1) e * proj x wk t e) (∑ e, proj x wq (t - 1) e * proj x wq (t - 1) e) (∑ e, proj x wk t e * proj x wk t e)

/-- Token `t` is the first of a segment. -/
def Isf (cu : Fin 9 → BitVec 32) (t : ℕ) : Prop := ∃ s : Fin 8, cu s.castSucc = BitVec.ofNat 32 t

open Classical in
/-- The clamped probability, one at a segment's first token. -/
def pp (cu : Fin 9 → BitVec 32) (x : Toks) (wq wk : Wt) (t : ℕ) : EReal := min hi (max lo (if Isf cu t then 1 else praw x wq wk t))

/-- Token `t` is selected as a boundary. -/
def Sel (cu : Fin 9 → BitVec 32) (x : Toks) (wq wk : Wt) (t : ℕ) : Prop := half ≤ pp cu x wq wk t

open Classical in
/-- The coefficient of the state before token `t`. -/
def coef (cu : Fin 9 → BitVec 32) (x : Toks) (wq wk : Wt) (t : ℕ) : EReal :=
  if Isf cu t then 0 else if Sel cu x wq wk t then 1 - pp cu x wq wk t else 1

open Classical in
/-- What token `t` adds to the state. -/
def inc (cu : Fin 9 → BitVec 32) (x : Toks) (wq wk wm : Wt) (t : ℕ) (d : Fin 512) : EReal :=
  (if Sel cu x wq wk t then pp cu x wq wk t else 0) * proj x wm t d

/-- The state before token `t`. -/
def state (cu : Fin 9 → BitVec 32) (x : Toks) (wq wk wm : Wt) : ℕ → Fin 512 → EReal
  | 0, _ => 0
  | t + 1, d => coef cu x wq wk t * state cu x wq wk wm t d + inc cu x wq wk wm t d

/-- The result: the tokens plus the state after each. -/
def out (cu : Fin 9 → BitVec 32) (x : Toks) (wq wk wm : Wt) (t : ℕ) (d : Fin 512) : EReal := x t d + state cu x wq wk wm (t + 1) d

/-- Starts at block rows: the first is token 0, and the others are, read as signed numbers, non-negative multiples of 1024. -/
structure Starts (cu : Fin 9 → BitVec 32) : Prop where
  zero : cu 0 = 0#32
  block : ∀ s : Fin 8, ∃ k : ℕ, k < 2097152 ∧ cu s.castSucc = BitVec.ofNat 32 (1024 * k)

/-- The first token starts a segment. -/
theorem Starts.isf_zero {cu : Fin 9 → BitVec 32} (h : Starts cu) : Isf cu 0 := ⟨0, h.zero⟩

/-- Inside a block no token but the first starts a segment. -/
theorem Starts.not_isf {cu : Fin 9 → BitVec 32} (h : Starts cu) {b r : ℕ} (hr : 0 < r) (hr' : r < 1024) (hb : b < 16) :
    ¬ Isf cu (1024 * b + r) := by
  rintro ⟨s, hs⟩
  obtain ⟨k, hk, e⟩ := h.block s
  rw [e] at hs
  have := congrArg BitVec.toNat hs
  simp only [BitVec.toNat_ofNat] at this
  omega

/-- The lower bound of the probabilities, as a number. -/
theorem lo_eq : lo = ((13743895 / 137438953472 : ℝ) : EReal) := by
  simp [lo, Ideal.ofBits, Ideal.ieee, -EReal.coe_mul, -EReal.coe_neg]; norm_num [-EReal.coe_neg]
/-- The upper bound of the probabilities, as a number. -/
theorem hi_eq : hi = ((16775538 / 16777216 : ℝ) : EReal) := by
  simp [hi, Ideal.ofBits, Ideal.ieee, -EReal.coe_mul, -EReal.coe_neg]; norm_num [-EReal.coe_neg]
/-- The threshold, as a number. -/
theorem half_eq : half = ((1 / 2 : ℝ) : EReal) := by
  simp [half, Ideal.ofBits, Ideal.ieee, -EReal.coe_mul, -EReal.coe_neg]; norm_num [-EReal.coe_neg]
/-- The logarithm's lower bound, as a number. -/
theorem fifty_eq : Ideal.ofBits .f32 0xC2480000#32 = ((-50 : ℝ) : EReal) := by
  simp [Ideal.ofBits, Ideal.ieee, -EReal.coe_mul, -EReal.coe_neg]; norm_num [-EReal.coe_neg]

section
variable (cu : Fin 9 → BitVec 32) (x : Toks) (wq wk wm : Wt)

/-- The clamped probability is a real number between the bounds. -/
theorem pp_real (t : ℕ) : ∃ r : ℝ, pp cu x wq wk t = (r : EReal) ∧ 13743895 / 137438953472 ≤ r ∧ r ≤ 16775538 / 16777216 := by
  have h1 : lo ≤ pp cu x wq wk t := by
    refine le_min ?_ (le_max_left _ _)
    rw [lo_eq, hi_eq, EReal.coe_le_coe_iff]; norm_num
  have h2 : pp cu x wq wk t ≤ hi := min_le_left _ _
  rw [lo_eq] at h1
  rw [hi_eq] at h2
  have hb : pp cu x wq wk t ≠ ⊥ := fun e => by rw [e] at h1; exact absurd (le_bot_iff.mp h1) (EReal.coe_ne_bot _)
  have ht : pp cu x wq wk t ≠ ⊤ := fun e => by rw [e] at h2; exact absurd (top_le_iff.mp h2) (EReal.coe_ne_top _)
  lift pp cu x wq wk t to ℝ using ⟨ht, hb⟩ with r hr
  exact ⟨r, rfl, EReal.coe_le_coe_iff.mp h1, EReal.coe_le_coe_iff.mp h2⟩

/-- Away from the starts the coefficient is a positive real, at least one minus the greatest probability and at most one. -/
theorem coef_real (t : ℕ) (h : ¬ Isf cu t) : ∃ r : ℝ, coef cu x wq wk t = (r : EReal) ∧ 1678 / 16777216 ≤ r ∧ r ≤ 1 := by
  obtain ⟨r, e, h1, h2⟩ := pp_real cu x wq wk t
  by_cases hs : Sel cu x wq wk t
  · refine ⟨1 - r, ?_, by linarith, by linarith⟩
    rw [coef, if_neg h, if_pos hs, e]; norm_cast
  · exact ⟨1, by rw [coef, if_neg h, if_neg hs]; norm_cast, by norm_num, le_refl _⟩

/-- Every coefficient is a non-negative real. -/
theorem coef_nonneg (t : ℕ) : ∃ r : ℝ, coef cu x wq wk t = (r : EReal) ∧ 0 ≤ r := by
  by_cases h : Isf cu t
  · exact ⟨0, by rw [coef, if_pos h]; norm_cast, le_refl _⟩
  · obtain ⟨r, e, h1, _⟩ := coef_real cu x wq wk t h
    exact ⟨r, e, by linarith⟩

/-- A start is selected. -/
theorem sel_of_isf (t : ℕ) (h : Isf cu t) : Sel cu x wq wk t := by
  rw [Sel, pp, if_pos h, half_eq, hi_eq, lo_eq]
  refine le_min ?_ (le_trans ?_ (le_max_right _ _))
  · rw [EReal.coe_le_coe_iff]; norm_num
  · rw [← EReal.coe_one, EReal.coe_le_coe_iff]; norm_num

/-- The logarithm of a coefficient away from the starts is not cut off at -50. -/
theorem log_coef (t : ℕ) (h : ¬ Isf cu t) :
    ∃ r : ℝ, coef cu x wq wk t = (r : EReal) ∧ 0 < r ∧ max (Ideal.log (coef cu x wq wk t)) (Ideal.ofBits .f32 0xC2480000#32) = ((Real.log r : ℝ) : EReal) := by
  obtain ⟨r, e, h1, _⟩ := coef_real cu x wq wk t h
  have hr : 0 < r := by linarith [show (0 : ℝ) < 1678 / 16777216 by norm_num]
  refine ⟨r, e, hr, ?_⟩
  rw [e, Ideal.log_coe, if_neg (not_le.mpr hr), fifty_eq]
  refine max_eq_left (EReal.coe_le_coe_iff.mpr ?_)
  rw [Real.le_log_iff_exp_le hr]
  refine le_trans ?_ h1
  have h2 : Real.exp (-50) = (Real.exp (-1)) ^ 50 := by rw [← Real.exp_nat_mul]; norm_num
  have h3 : Real.exp (-1) ≤ 1 / 2 := by
    rw [Real.exp_neg, inv_eq_one_div]
    have := Real.add_one_le_exp (1 : ℝ)
    exact one_div_le_one_div_of_le (by norm_num) (by linarith)
  rw [h2]
  calc (Real.exp (-1)) ^ 50 ≤ (1 / 2 : ℝ) ^ 50 := pow_le_pow_left₀ (Real.exp_pos _).le h3 50
    _ ≤ 1678 / 16777216 := by norm_num

end

end Cert.Proof.Spec
end
-- ==== Proof.Args.lean ====
module

public import Idealize.ShloMosaic.Lib.Pointwise
public import proofs.«01_k».proof.Proof.Spec

/-! The arguments' arrays, over the extended reals, as the functions the specification takes. -/

@[expose] public section

noncomputable section

namespace Cert.Proof.Args
open Idealize.ShloMosaic Cert.Proof.Spec

/-- The tokens of an array of 16384 rows; beyond them, zero. -/
def toks (A : (⟨2, ![16384, 512]⟩ : Shape).Idx → EReal) : Toks := fun t d => if h : t < 16384 then A (ix2 ⟨t, h⟩ d) else 0
/-- The entries of a weight matrix. -/
def wt (W : (⟨2, ![512, 512]⟩ : Shape).Idx → EReal) : Wt := fun k e => W (ix2 k e)
/-- The entries of the table of starts. -/
def starts (U : (⟨1, ![9]⟩ : Shape).Idx → BitVec 32) : Fin 9 → BitVec 32 := fun s => U (ix1 s)

/-- A token within the array is the array's row. -/
theorem toks_of_lt (A : (⟨2, ![16384, 512]⟩ : Shape).Idx → EReal) (t : ℕ) (h : t < 16384) (d : Fin 512) : toks A t d = A (ix2 ⟨t, h⟩ d) := dif_pos h

end Cert.Proof.Args
end
-- ==== Proof.BlockMath.lean ====
module

public import Idealize.ShloMosaic.PureOps.Ideal
public import Mathlib.Analysis.SpecialFunctions.Exp
public import Mathlib.Data.EReal.Operations
public import Mathlib.Data.EReal.Inv
public import Mathlib.Algebra.BigOperators.Intervals
public import Mathlib.Algebra.BigOperators.Fin

/-! Two facts about sums: a prefix sum by doubling steps, and a linear recurrence as a sum weighted by exponentials of
differences of prefix sums. -/

@[expose] public section

noncomputable section

namespace Cert.Proof.BlockMath
open Idealize.ShloMosaic Finset

/-- A non-negative real goes into a sum of extended reals. -/
theorem mul_sum_real {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- The sum of the last `n` entries up to `r`, or of all of them when there are fewer. -/
def win (v : ℕ → EReal) (n r : ℕ) : EReal := ∑ j ∈ range n, if j ≤ r then v (r - j) else 0

/-- A window of one entry is the entry. -/
theorem win_one (v : ℕ → EReal) (r : ℕ) : win v 1 r = v r := by simp [win]

/-- Doubling the length. -/
theorem win_double (v : ℕ → EReal) (n r : ℕ) : win v (n + n) r = win v n r + (if r < n then 0 else win v n (r - n)) := by
  rw [win, sum_range_add, ← win]
  congr 1
  by_cases h : r < n
  · rw [if_pos h]
    refine sum_eq_zero fun j _ => if_neg (by omega)
  · rw [if_neg h, win]
    refine sum_congr rfl fun j _ => ?_
    by_cases hj : n + j ≤ r
    · rw [if_pos hj, if_pos (by omega), Nat.sub_sub]
    · rw [if_neg hj, if_neg (by omega)]

/-- Long enough, it is the prefix sum. -/
theorem win_full (v : ℕ → EReal) (n r : ℕ) (h : r < n) : win v n r = ∑ i ∈ range (r + 1), v i := by
  have hn : n = (r + 1) + (n - (r + 1)) := by omega
  rw [win, hn, sum_range_add]
  rw [show (∑ j ∈ range (n - (r + 1)), if r + 1 + j ≤ r then v (r - (r + 1 + j)) else 0) = 0 from sum_eq_zero fun j _ => if_neg (by omega), add_zero]
  rw [← sum_range_reflect]
  refine sum_congr rfl fun j hj => ?_
  have := mem_range.mp hj
  rw [if_pos (by omega)]
  exact congrArg v (by omega)

/-- Prefix sums of reals are reals. -/
theorem sum_coe (f : ℕ → ℝ) (n : ℕ) : ∑ i ∈ range n, ((f i : ℝ) : EReal) = ((∑ i ∈ range n, f i : ℝ) : EReal) := by
  induction n with
  | zero => simp
  | succ n ih => rw [sum_range_succ, sum_range_succ, ih, EReal.coe_add]

/-- The weighted sum at row `t` of a run of rows: what entered at row `u ≤ t`, scaled by the exponential of the difference of
the prefix sums, plus the part carried in at row 0. -/
def wsum (P : ℕ → ℝ) (b : ℕ → EReal) (K : EReal) (n t : ℕ) : EReal :=
  (∑ u ∈ range n, if u ≤ t then ((Real.exp (P t - P u) : ℝ) : EReal) * b u else 0) + ((Real.exp (P t - P 0) : ℝ) : EReal) * K

/-- At the first row the weighted sum is what entered there plus the part carried in. -/
theorem wsum_zero (P : ℕ → ℝ) (b : ℕ → EReal) (K : EReal) (n : ℕ) (hn : 0 < n) : wsum P b K n 0 = b 0 + K := by
  rw [wsum, sum_eq_single 0]
  · simp
  · intro u _ hu; exact if_neg (by omega)
  · intro h; exact absurd (mem_range.mpr hn) h

/-- From one row to the next the weighted sum is scaled by the exponential of the rise of the prefix sums, and what enters is added. -/
theorem wsum_succ (P : ℕ → ℝ) (b : ℕ → EReal) (K : EReal) (n t : ℕ) (ht : t + 1 < n) :
    wsum P b K n (t + 1) = ((Real.exp (P (t + 1) - P t) : ℝ) : EReal) * wsum P b K n t + b (t + 1) := by
  have hE : ∀ s : ℝ, ((Real.exp (P (t + 1) - s) : ℝ) : EReal) = ((Real.exp (P (t + 1) - P t) : ℝ) : EReal) * ((Real.exp (P t - s) : ℝ) : EReal) := fun s => by
    rw [← EReal.coe_mul, ← Real.exp_add]; congr 2; ring
  rw [wsum, wsum, EReal.left_distrib_of_nonneg_of_ne_top (EReal.coe_nonneg.mpr (Real.exp_pos _).le) (EReal.coe_ne_top _),
    mul_sum_real _ _ (Real.exp_pos _).le, hE (P 0), mul_assoc, add_right_comm]
  congr 1
  rw [← add_sum_erase _ _ (mem_range.mpr ht), if_pos (le_refl _), sub_self, Real.exp_zero, EReal.coe_one, one_mul, add_comm (b (t + 1)),
    ← add_sum_erase (range n) (fun u => ((Real.exp (P (t + 1) - P t) : ℝ) : EReal) * _) (mem_range.mpr ht), if_neg (by omega), mul_zero, zero_add]
  congr 1
  refine sum_congr rfl fun u hu => ?_
  have hu' := (mem_erase.mp hu).1
  by_cases h : u ≤ t
  · rw [if_pos (by omega), if_pos h, hE (P u), mul_assoc]
  · rw [if_neg (by omega), if_neg h, mul_zero]

/-- A run of the recurrence whose coefficients are the exponentials of the prefix sums' steps is the weighted sum. -/
theorem wsum_eq (P : ℕ → ℝ) (b : ℕ → EReal) (K : EReal) (n : ℕ) (Z : ℕ → EReal) (h0 : Z 0 = b 0 + K)
    (hs : ∀ t, t + 1 < n → Z (t + 1) = ((Real.exp (P (t + 1) - P t) : ℝ) : EReal) * Z t + b (t + 1)) (t : ℕ) (ht : t < n) : wsum P b K n t = Z t := by
  induction t with
  | zero => rw [wsum_zero _ _ _ _ ht, h0]
  | succ t ih => rw [wsum_succ _ _ _ _ _ ht, ih (by omega), hs t ht]

end Cert.Proof.BlockMath
end
-- ==== Proof.KVal.lean ====
module

public import proofs.«01_k».proof.Proof.KIStep
public import proofs.«01_k».proof.Proof.Args
public import proofs.«01_k».proof.Proof.BlockMath
public import Idealize.ShloMosaic.Lib.Affine
public import Idealize.ShloMosaic.Lib.WordCmp

/-! The values one grid step of the ideal kernel computes, in terms of the specification: starts, probabilities, coefficients,
the prefix sums of the logarithms, and the states of a block. -/

@[expose] public section

set_option maxRecDepth 16384

noncomputable section

namespace Cert.Proof.KVal
open Cert.KernelIdeal Cert.KernelIdeal.Gen Cert.Proof.KIStep
open Idealize.ShloMosaic Cert.Proof.Spec Cert.Proof.Args Cert.Proof.BlockMath

variable {F : FTy → Type} [FloatOps F]

/-! ## The prefix sum of a column by doubling steps -/

/-- Every row plus the row 1 above it. -/
def st1 (v : FVec F S1024x1 .f32) : FVec F S1024x1 .f32 :=
  addf v (concatenate S1024x1 0 [⟨S1x1, broadcast S1x1 (Scalar.ofBits .f32 0x00000000#32)⟩, ⟨S1023x1, extractStridedSlice S1023x1 ![0, 0] v slices_S1024x1_o0_0_S1023x1⟩] concatenates_S1x1_S1023x1_S1024x1_d0)
/-- Sums over windows of 1 rows become sums over windows of 2. -/
theorem st1_win (v : FVec Ideal S1024x1 .f32) (f : ℕ → EReal) (h : ∀ r : Fin 1024, v (ix2 r 0) = win f 1 r) (r : Fin 1024) :
    st1 v (ix2 r 0) = win f (1 + 1) r := by
  have e : st1 v (ix2 r 0) = v (ix2 r 0) + (if h : r.val < 1 then 0 else v (ix2 ⟨r.val - 1, by omega⟩ 0)) := by
    pointwise [st1]
  rw [e, win_double, h r]
  congr 1
  by_cases hr : r.val < 1
  · rw [dif_pos hr, if_pos hr]
  · rw [dif_neg hr, if_neg hr, h]
/-- Every row plus the row 2 above it. -/
def st2 (v : FVec F S1024x1 .f32) : FVec F S1024x1 .f32 :=
  addf v (concatenate S1024x1 0 [⟨S2x1, broadcast S2x1 (Scalar.ofBits .f32 0x00000000#32)⟩, ⟨S1022x1, extractStridedSlice S1022x1 ![0, 0] v slices_S1024x1_o0_0_S1022x1⟩] concatenates_S2x1_S1022x1_S1024x1_d0)
/-- Sums over windows of 2 rows become sums over windows of 4. -/
theorem st2_win (v : FVec Ideal S1024x1 .f32) (f : ℕ → EReal) (h : ∀ r : Fin 1024, v (ix2 r 0) = win f 2 r) (r : Fin 1024) :
    st2 v (ix2 r 0) = win f (2 + 2) r := by
  have e : st2 v (ix2 r 0) = v (ix2 r 0) + (if h : r.val < 2 then 0 else v (ix2 ⟨r.val - 2, by omega⟩ 0)) := by
    pointwise [st2]
  rw [e, win_double, h r]
  congr 1
  by_cases hr : r.val < 2
  · rw [dif_pos hr, if_pos hr]
  · rw [dif_neg hr, if_neg hr, h]
/-- Every row plus the row 4 above it. -/
def st4 (v : FVec F S1024x1 .f32) : FVec F S1024x1 .f32 :=
  addf v (concatenate S1024x1 0 [⟨S4x1, broadcast S4x1 (Scalar.ofBits .f32 0x00000000#32)⟩, ⟨S1020x1, extractStridedSlice S1020x1 ![0, 0] v slices_S1024x1_o0_0_S1020x1⟩] concatenates_S4x1_S1020x1_S1024x1_d0)
/-- Sums over windows of 4 rows become sums over windows of 8. -/
theorem st4_win (v : FVec Ideal S1024x1 .f32) (f : ℕ → EReal) (h : ∀ r : Fin 1024, v (ix2 r 0) = win f 4 r) (r : Fin 1024) :
    st4 v (ix2 r 0) = win f (4 + 4) r := by
  have e : st4 v (ix2 r 0) = v (ix2 r 0) + (if h : r.val < 4 then 0 else v (ix2 ⟨r.val - 4, by omega⟩ 0)) := by
    pointwise [st4]
  rw [e, win_double, h r]
  congr 1
  by_cases hr : r.val < 4
  · rw [dif_pos hr, if_pos hr]
  · rw [dif_neg hr, if_neg hr, h]
/-- Every row plus the row 8 above it. -/
def st8 (v : FVec F S1024x1 .f32) : FVec F S1024x1 .f32 :=
  addf v (concatenate S1024x1 0 [⟨S8x1, broadcast S8x1 (Scalar.ofBits .f32 0x00000000#32)⟩, ⟨S1016x1, extractStridedSlice S1016x1 ![0, 0] v slices_S1024x1_o0_0_S1016x1⟩] concatenates_S8x1_S1016x1_S1024x1_d0)
/-- Sums over windows of 8 rows become sums over windows of 16. -/
theorem st8_win (v : FVec Ideal S1024x1 .f32) (f : ℕ → EReal) (h : ∀ r : Fin 1024, v (ix2 r 0) = win f 8 r) (r : Fin 1024) :
    st8 v (ix2 r 0) = win f (8 + 8) r := by
  have e : st8 v (ix2 r 0) = v (ix2 r 0) + (if h : r.val < 8 then 0 else v (ix2 ⟨r.val - 8, by omega⟩ 0)) := by
    pointwise [st8]
  rw [e, win_double, h r]
  congr 1
  by_cases hr : r.val < 8
  · rw [dif_pos hr, if_pos hr]
  · rw [dif_neg hr, if_neg hr, h]
/-- Every row plus the row 16 above it. -/
def st16 (v : FVec F S1024x1 .f32) : FVec F S1024x1 .f32 :=
  addf v (concatenate S1024x1 0 [⟨S16x1, broadcast S16x1 (Scalar.ofBits .f32 0x00000000#32)⟩, ⟨S1008x1, extractStridedSlice S1008x1 ![0, 0] v slices_S1024x1_o0_0_S1008x1⟩] concatenates_S16x1_S1008x1_S1024x1_d0)
/-- Sums over windows of 16 rows become sums over windows of 32. -/
theorem st16_win (v : FVec Ideal S1024x1 .f32) (f : ℕ → EReal) (h : ∀ r : Fin 1024, v (ix2 r 0) = win f 16 r) (r : Fin 1024) :
    st16 v (ix2 r 0) = win f (16 + 16) r := by
  have e : st16 v (ix2 r 0) = v (ix2 r 0) + (if h : r.val < 16 then 0 else v (ix2 ⟨r.val - 16, by omega⟩ 0)) := by
    pointwise [st16]
  rw [e, win_double, h r]
  congr 1
  by_cases hr : r.val < 16
  · rw [dif_pos hr, if_pos hr]
  · rw [dif_neg hr, if_neg hr, h]
/-- Every row plus the row 32 above it. -/
def st32 (v : FVec F S1024x1 .f32) : FVec F S1024x1 .f32 :=
  addf v (concatenate S1024x1 0 [⟨S32x1, broadcast S32x1 (Scalar.ofBits .f32 0x00000000#32)⟩, ⟨S992x1, extractStridedSlice S992x1 ![0, 0] v slices_S1024x1_o0_0_S992x1⟩] concatenates_S32x1_S992x1_S1024x1_d0)
/-- Sums over windows of 32 rows become sums over windows of 64. -/
theorem st32_win (v : FVec Ideal S1024x1 .f32) (f : ℕ → EReal) (h : ∀ r : Fin 1024, v (ix2 r 0) = win f 32 r) (r : Fin 1024) :
    st32 v (ix2 r 0) = win f (32 + 32) r := by
  have e : st32 v (ix2 r 0) = v (ix2 r 0) + (if h : r.val < 32 then 0 else v (ix2 ⟨r.val - 32, by omega⟩ 0)) := by
    pointwise [st32]
  rw [e, win_double, h r]
  congr 1
  by_cases hr : r.val < 32
  · rw [dif_pos hr, if_pos hr]
  · rw [dif_neg hr, if_neg hr, h]
/-- Every row plus the row 64 above it. -/
def st64 (v : FVec F S1024x1 .f32) : FVec F S1024x1 .f32 :=
  addf v (concatenate S1024x1 0 [⟨S64x1, broadcast S64x1 (Scalar.ofBits .f32 0x00000000#32)⟩, ⟨S960x1, extractStridedSlice S960x1 ![0, 0] v slices_S1024x1_o0_0_S960x1⟩] concatenates_S64x1_S960x1_S1024x1_d0)
/-- Sums over windows of 64 rows become sums over windows of 128. -/
theorem st64_win (v : FVec Ideal S1024x1 .f32) (f : ℕ → EReal) (h : ∀ r : Fin 1024, v (ix2 r 0) = win f 64 r) (r : Fin 1024) :
    st64 v (ix2 r 0) = win f (64 + 64) r := by
  have e : st64 v (ix2 r 0) = v (ix2 r 0) + (if h : r.val < 64 then 0 else v (ix2 ⟨r.val - 64, by omega⟩ 0)) := by
    pointwise [st64]
  rw [e, win_double, h r]
  congr 1
  by_cases hr : r.val < 64
  · rw [dif_pos hr, if_pos hr]
  · rw [dif_neg hr, if_neg hr, h]
/-- Every row plus the row 128 above it. -/
def st128 (v : FVec F S1024x1 .f32) : FVec F S1024x1 .f32 :=
  addf v (concatenate S1024x1 0 [⟨S128x1, broadcast S128x1 (Scalar.ofBits .f32 0x00000000#32)⟩, ⟨S896x1, extractStridedSlice S896x1 ![0, 0] v slices_S1024x1_o0_0_S896x1⟩] concatenates_S128x1_S896x1_S1024x1_d0)
/-- Sums over windows of 128 rows become sums over windows of 256. -/
theorem st128_win (v : FVec Ideal S1024x1 .f32) (f : ℕ → EReal) (h : ∀ r : Fin 1024, v (ix2 r 0) = win f 128 r) (r : Fin 1024) :
    st128 v (ix2 r 0) = win f (128 + 128) r := by
  have e : st128 v (ix2 r 0) = v (ix2 r 0) + (if h : r.val < 128 then 0 else v (ix2 ⟨r.val - 128, by omega⟩ 0)) := by
    pointwise [st128]
  rw [e, win_double, h r]
  congr 1
  by_cases hr : r.val < 128
  · rw [dif_pos hr, if_pos hr]
  · rw [dif_neg hr, if_neg hr, h]
/-- Every row plus the row 256 above it. -/
def st256 (v : FVec F S1024x1 .f32) : FVec F S1024x1 .f32 :=
  addf v (concatenate S1024x1 0 [⟨S256x1, broadcast S256x1 (Scalar.ofBits .f32 0x00000000#32)⟩, ⟨S768x1, extractStridedSlice S768x1 ![0, 0] v slices_S1024x1_o0_0_S768x1⟩] concatenates_S256x1_S768x1_S1024x1_d0)
/-- Sums over windows of 256 rows become sums over windows of 512. -/
theorem st256_win (v : FVec Ideal S1024x1 .f32) (f : ℕ → EReal) (h : ∀ r : Fin 1024, v (ix2 r 0) = win f 256 r) (r : Fin 1024) :
    st256 v (ix2 r 0) = win f (256 + 256) r := by
  have e : st256 v (ix2 r 0) = v (ix2 r 0) + (if h : r.val < 256 then 0 else v (ix2 ⟨r.val - 256, by omega⟩ 0)) := by
    pointwise [st256]
  rw [e, win_double, h r]
  congr 1
  by_cases hr : r.val < 256
  · rw [dif_pos hr, if_pos hr]
  · rw [dif_neg hr, if_neg hr, h]
/-- Every row plus the row 512 above it. -/
def st512 (v : FVec F S1024x1 .f32) : FVec F S1024x1 .f32 :=
  addf v (concatenate S1024x1 0 [⟨S512x1, broadcast S512x1 (Scalar.ofBits .f32 0x00000000#32)⟩, ⟨S512x1, extractStridedSlice S512x1 ![0, 0] v slices_S1024x1_o0_0_S512x1⟩] concatenates_S512x1_S512x1_S1024x1_d0)
/-- Sums over windows of 512 rows become sums over windows of 1024. -/
theorem st512_win (v : FVec Ideal S1024x1 .f32) (f : ℕ → EReal) (h : ∀ r : Fin 1024, v (ix2 r 0) = win f 512 r) (r : Fin 1024) :
    st512 v (ix2 r 0) = win f (512 + 512) r := by
  have e : st512 v (ix2 r 0) = v (ix2 r 0) + (if h : r.val < 512 then 0 else v (ix2 ⟨r.val - 512, by omega⟩ 0)) := by
    pointwise [st512]
  rw [e, win_double, h r]
  congr 1
  by_cases hr : r.val < 512
  · rw [dif_pos hr, if_pos hr]
  · rw [dif_neg hr, if_neg hr, h]

/-- The kernel's prefix sum is the ten steps. -/
theorem pay22_eq (m : IVec S1024x1 1) (v : FVec F S1024x1 .f32) (k : F .f32) :
    k0_pay22 m v k = st512 (st256 (st128 (st64 (st32 (st16 (st8 (st4 (st2 (st1 (select m (broadcast S1024x1 k) v)))))))))) := rfl

/-- The ten doublings give every row the sum of all rows up to it. -/
theorem pay22_win (m : IVec S1024x1 1) (v : FVec Ideal S1024x1 .f32) (k : Ideal .f32) (f : ℕ → EReal)
    (h : ∀ r : Fin 1024, select m (broadcast S1024x1 k) v (ix2 r 0) = f r) (r : Fin 1024) :
    k0_pay22 m v k (ix2 r 0) = ∑ i ∈ Finset.range (r.val + 1), f i := by
  rw [pay22_eq, ← win_full f 1024 r.val r.isLt]
  exact st512_win _ f (st256_win _ f (st128_win _ f (st64_win _ f (st32_win _ f (st16_win _ f (st8_win _ f (st4_win _ f (st2_win _ f (st1_win _ f (fun r => (h r).trans (win_one f r).symm)))))))))) r

/-! ## Starts, probabilities, coefficients -/

/-- An or of two bits is set when one of them is. -/
theorem ori_iff (a b : BitVec 1) : IntOp.ori a b = 1#1 ↔ a = 1#1 ∨ b = 1#1 := by
  revert a b; decide

/-- The word of a row's token. -/
theorem tok_word (b r : ℕ) (hb : b < 16) (hr : r < 1024) :
    IntOp.addi (Scalar.muli (Scalar.subi (BitVec.ofNat 32 (b + 1)) 1#32) 1024#32) (BitVec.ofNat 32 r) = BitVec.ofNat 32 (1024 * b + r) := by
  show (BitVec.ofNat 32 (b + 1) - 1#32) * 1024#32 + BitVec.ofNat 32 r = _
  apply BitVec.eq_of_toNat_eq
  simp only [BitVec.toNat_add, BitVec.toNat_mul, BitVec.toNat_sub, BitVec.toNat_ofNat]
  omega

section
variable (i : grid0.Coords) (U : S9.Idx → BitVec 32) (b : ℕ) (hb : b < 16) (hi : (i 0).val = b + 1)

include hb hi in
/-- A row's mark is set when its token is in the table of starts. -/
theorem isf_iff (r : Fin 1024) :
    k0_pay15 (F := Ideal) (ids i) (f3 (F := Ideal) i U) (U (ix1 3)) (U (ix1 4)) (U (ix1 5)) (U (ix1 6)) (U (ix1 7)) (ix2 r 0) = 1#1
      ↔ Isf (starts U) (1024 * b + r.val) := by
  pointwise [k0_pay15, ids, f3, k0_pay13, k0_pay14]
  rw [hi, tok_word b r.val hb r.isLt]
  simp only [ori_iff, IntOp.cmpi_eq]
  constructor
  · rintro (((((((h | h) | h) | h) | h) | h) | h) | h)
    exacts [⟨0, h.symm⟩, ⟨1, h.symm⟩, ⟨2, h.symm⟩, ⟨3, h.symm⟩, ⟨4, h.symm⟩, ⟨5, h.symm⟩, ⟨6, h.symm⟩, ⟨7, h.symm⟩]
  · rintro ⟨s, h⟩
    have h' := h.symm
    fin_cases s
    · exact Or.inl (Or.inl (Or.inl (Or.inl (Or.inl (Or.inl (Or.inl h'))))))
    · exact Or.inl (Or.inl (Or.inl (Or.inl (Or.inl (Or.inl (Or.inr h'))))))
    · exact Or.inl (Or.inl (Or.inl (Or.inl (Or.inl (Or.inr h')))))
    · exact Or.inl (Or.inl (Or.inl (Or.inl (Or.inr h'))))
    · exact Or.inl (Or.inl (Or.inl (Or.inr h')))
    · exact Or.inl (Or.inl (Or.inr h'))
    · exact Or.inl (Or.inr h')
    · exact Or.inr h'

variable (x : Toks) (wq wk wm : Wt) (p : FVec Ideal S1024x1 .f32) (hp : ∀ r : Fin 1024, Isf (starts U) (1024 * b + r.val) ∨ p (ix2 r 0) = praw x wq wk (1024 * b + r.val))

include hb hi hp in
open Classical in
/-- The probability with starts set to one. -/
theorem sel1 (r : Fin 1024) :
    Scalar.select (k0_pay15 (F := Ideal) (ids i) (f3 (F := Ideal) i U) (U (ix1 3)) (U (ix1 4)) (U (ix1 5)) (U (ix1 6)) (U (ix1 7)) (ix2 r 0)) 1 (p (ix2 r 0))
      = if Isf (starts U) (1024 * b + r.val) then 1 else praw x wq wk (1024 * b + r.val) := by
  by_cases h : Isf (starts U) (1024 * b + r.val)
  · rw [if_pos h]; exact if_pos ((isf_iff i U b hb hi r).mpr h)
  · rw [if_neg h, ← (hp r).resolve_left h]; exact if_neg fun h' => h ((isf_iff i U b hb hi r).mp h')

include hb hi hp in
/-- The coefficients. -/
theorem aV_eq (r : Fin 1024) : aV i U p (ix2 r 0) = coef (starts U) x wq wk (1024 * b + r.val) := by
  unfold aV
  pointwise [k0_pay18, k0_pay17, k0_pay16]
  rw [sel1 i U b hb hi x wq wk p hp r]
  by_cases h : Isf (starts U) (1024 * b + r.val)
  · rw [if_pos h, coef, if_pos h]; exact if_pos ((isf_iff i U b hb hi r).mpr h)
  · rw [if_neg h, coef, if_neg h]
    refine (if_neg fun h' => h ((isf_iff i U b hb hi r).mp h')).trans ?_
    unfold Sel pp half lo Spec.hi
    rw [if_neg h]
    congr 1

include hb hi hp in
/-- What each token adds. -/
theorem bV_eq (y : FVec Ideal S1024x512 .f32) (hy : ∀ (r : Fin 1024) (d : Fin 512), y (ix2 r d) = proj x wm (1024 * b + r.val) d)
    (r : Fin 1024) (d : Fin 512) : bV i U p y (ix2 r d) = inc (starts U) x wq wk wm (1024 * b + r.val) d := by
  unfold bV
  pointwise [k0_pay19, k0_pay17, k0_pay16]
  rw [sel1 i U b hb hi x wq wk p hp r, hy, inc]
  unfold Sel pp half lo Spec.hi
  congr 2

include hb hi hp in
/-- The clamped logarithms. -/
theorem lV_eq (r : Fin 1024) : lV i U p (ix2 r 0) = max (Ideal.log (coef (starts U) x wq wk (1024 * b + r.val))) (Ideal.ofBits .f32 0xC2480000#32) := by
  rw [← aV_eq i U b hb hi x wq wk p hp r]
  unfold lV aV
  pointwise [k0_pay21]

/-- The real logarithm of the coefficient of row `r` of block `b`, zero at row 0. -/
def lg (cu : Fin 9 → BitVec 32) (x : Toks) (wq wk : Wt) (b r : ℕ) : ℝ := if r = 0 then 0 else Real.log (coef cu x wq wk (1024 * b + r)).toReal
/-- Its prefix sums. -/
def ps (cu : Fin 9 → BitVec 32) (x : Toks) (wq wk : Wt) (b r : ℕ) : ℝ := ∑ j ∈ Finset.range (r + 1), lg cu x wq wk b j

/-- A step of the prefix sums is the coefficient. -/
theorem exp_step (cu : Fin 9 → BitVec 32) (hS : Starts cu) (b r : ℕ) (hb : b < 16) (hr : r + 1 < 1024) :
    ((Real.exp (ps cu x wq wk b (r + 1) - ps cu x wq wk b r) : ℝ) : EReal) = coef cu x wq wk (1024 * b + (r + 1)) := by
  obtain ⟨c, e, h0, -⟩ := log_coef cu x wq wk (1024 * b + (r + 1)) (hS.not_isf (by omega) hr hb)
  rw [ps, Finset.sum_range_succ, ← ps, add_sub_cancel_left, lg, if_neg (by omega), e, EReal.toReal_coe, Real.exp_log h0]

include hb hi hp in
/-- The kernel's prefix sums. -/
theorem pay22_ps (hS : Starts (starts U)) (r : Fin 1024) :
    k0_pay22 k0_pay20 (lV i U p) (Scalar.ofBits .f32 0x00000000#32) (ix2 r 0) = ((ps (starts U) x wq wk b r.val : ℝ) : EReal) := by
  rw [ps, ← sum_coe]
  refine pay22_win _ _ _ (fun j => ((lg (starts U) x wq wk b j : ℝ) : EReal)) (fun r => ?_) r
  have e := lV_eq i U b hb hi x wq wk p hp r
  generalize lV i U p = L at e
  have hl : select k0_pay20 (broadcast S1024x1 (Scalar.ofBits (F := Ideal) .f32 0x00000000#32)) L (ix2 r 0)
      = Scalar.select (IntOp.cmpi .eq (BitVec.ofNat 32 r.val) 0#32) 0 (L (ix2 r 0)) := by
    pointwise [k0_pay20]
  rw [hl, e]
  by_cases h : r.val = 0
  · rw [lg, if_pos h, EReal.coe_zero]
    exact if_pos (by rw [h]; rfl)
  · obtain ⟨c, e1, h0, e2⟩ := log_coef (starts U) x wq wk (1024 * b + r.val) (hS.not_isf (by omega) r.isLt hb)
    rw [lg, if_neg h, e2, e1, EReal.toReal_coe]
    refine if_neg fun h' => h ?_
    have := congrArg BitVec.toNat (IntOp.cmpi_eq.mp h')
    simp only [BitVec.toNat_ofNat] at this
    have := r.isLt
    omega

/-- A comparison of small row numbers. -/
theorem sle_iff (a c : ℕ) (ha : a < 1024) (hc : c < 1024) : IntOp.cmpi .sle (BitVec.ofNat 32 a) (BitVec.ofNat 32 c) = 1#1 ↔ a ≤ c :=
  WordCmp.cmpi_sle_ofNat_eq_one_iff (by omega) (by omega)

/-- A masked sum over the rows of half a block. -/
theorem masked_sum (P : ℕ → ℝ) (f : ℕ → EReal) (t : ℕ) (ht : t < 512) :
    (∑ u : Fin 512, Scalar.select (IntOp.cmpi .sle (BitVec.ofNat 32 u.val) (BitVec.ofNat 32 t)) (Ideal.exp (((P t : ℝ) : EReal) - ((P u.val : ℝ) : EReal)) * f u.val) 0)
      = ∑ u ∈ Finset.range 512, if u ≤ t then ((Real.exp (P t - P u) : ℝ) : EReal) * f u else 0 := by
  rw [Finset.sum_range]
  refine Finset.sum_congr rfl fun u _ => ?_
  by_cases h : u.val ≤ t
  · rw [if_pos h, ← EReal.coe_sub]; exact if_pos ((sle_iff _ _ (by omega) (by omega)).mpr h)
  · rw [if_neg h]; exact if_neg fun h' => h ((sle_iff _ _ (by omega) (by omega)).mp h')

section Halves
variable (cu : Fin 9 → BitVec 32) (hS : Starts cu) (x : Toks) (wq wk wm : Wt)
include hS hb

/-- The first half of a block's states as a weighted sum. -/
theorem first_half (d : Fin 512) (t : ℕ) (ht : t < 512) :
    wsum (ps cu x wq wk b) (fun u => inc cu x wq wk wm (1024 * b + u) d) (coef cu x wq wk (1024 * b) * state cu x wq wk wm (1024 * b) d) 512 t
      = state cu x wq wk wm (1024 * b + t + 1) d := by
  refine wsum_eq _ _ _ 512 (fun t => state cu x wq wk wm (1024 * b + t + 1) d) (add_comm _ _) (fun t h => ?_) t ht
  rw [exp_step x wq wk cu hS b t hb (by omega)]
  rfl

/-- The second half, from the state after the first. -/
theorem second_half (d : Fin 512) (t : ℕ) (ht : t < 512) :
    wsum (fun u => ps cu x wq wk b (512 + u)) (fun u => inc cu x wq wk wm (1024 * b + (512 + u)) d)
        (((Real.exp (ps cu x wq wk b 512 - ps cu x wq wk b 511) : ℝ) : EReal) * state cu x wq wk wm (1024 * b + 511 + 1) d) 512 t
      = state cu x wq wk wm (1024 * b + (512 + t) + 1) d := by
  refine wsum_eq _ _ _ 512 (fun t => state cu x wq wk wm (1024 * b + (512 + t) + 1) d) ?_ (fun t h => ?_) t ht
  · rw [exp_step x wq wk cu hS b 511 hb (by omega)]; exact add_comm _ _
  · show _ = ((Real.exp (ps cu x wq wk b (512 + t + 1) - ps cu x wq wk b (512 + t)) : ℝ) : EReal) * _ + _
    rw [exp_step x wq wk cu hS b (512 + t) hb (by omega)]
    rfl
end Halves

include hb hi hp in
/-- The states of a block. -/
theorem zV_eq (hS : Starts (starts U)) (y : FVec Ideal S1024x512 .f32) (hy : ∀ (r : Fin 1024) (d : Fin 512), y (ix2 r d) = proj x wm (1024 * b + r.val) d)
    (z : S1x512.Idx → EReal) (hz : ∀ d : Fin 512, z (ix2 0 d) = state (starts U) x wq wk wm (1024 * b) d)
    (r : Fin 1024) (d : Fin 512) : zV (F := Ideal) i U p y z (ix2 r d) = state (starts U) x wq wk wm (1024 * b + r.val + 1) d := by
  have hA := aV_eq i U b hb hi x wq wk p hp
  have hB := bV_eq i U b hb hi x wq wk wm p hp y hy
  have hP := pay22_ps i U b hb hi x wq wk p hp hS
  have hF := first_half b hb (starts U) hS x wq wk wm d
  have hG := second_half b hb (starts U) hS x wq wk wm d
  unfold zV
  generalize aV i U p = a at hA
  generalize bV i U p y = bb at hB
  generalize lV i U p = L at hP
  have e0 : (Scalar.ofBits .f32 0x00000000#32 : Ideal .f32) = 0 := Ideal.ofBits_zero_f32
  rw [e0] at hP
  have hP5 : k0_pay22 k0_pay20 L (0 : Ideal .f32) (ix2 511 0) = ((ps (starts U) x wq wk b 511 : ℝ) : EReal) := hP 511
  have hP0 : k0_pay22 k0_pay20 L (0 : Ideal .f32) (ix2 0 0) = ((ps (starts U) x wq wk b 0 : ℝ) : EReal) := hP 0
  have hA0 : a (ix2 0 0) = coef (starts U) x wq wk (1024 * b) := hA 0
  have s0 : ∀ (t : ℕ) (_ : t < 512) (v : EReal), Scalar.select (IntOp.cmpi .sle 0#32 (BitVec.ofNat 32 t)) v (0 : EReal) = v := fun t h v =>
    if_pos ((sle_iff 0 t (by omega) (by omega)).mpr (Nat.zero_le _))
  pointwise [k0_pay28, k0_pay23, k0_pay24, k0_pay25, k0_pay26, k0_pay27]
  simp only [hP5, hP0, hA0, hP, hB, hz]
  by_cases h : r.val < 512
  · rw [dif_pos h, masked_sum (ps (starts U) x wq wk b) (fun u => inc (starts U) x wq wk wm (1024 * b + u) d) r.val h, s0 _ h, mul_assoc,
      ← EReal.coe_sub, Ideal.exp_coe]
    exact hF r.val h
  · rw [dif_neg h]
    have hr : r.val - 512 < 512 := by omega
    have e5 : 512 + (r.val - 512) = r.val := by omega
    have m2 := masked_sum (fun u => ps (starts U) x wq wk b (512 + u)) (fun u => inc (starts U) x wq wk wm (1024 * b + (512 + u)) d) (r.val - 512) hr
    have m1 := masked_sum (ps (starts U) x wq wk b) (fun u => inc (starts U) x wq wk wm (1024 * b + u) d) 511 (by omega)
    have f1 := hF 511 (by omega)
    have g1 := hG (r.val - 512) hr
    have z1 := s0 511 (by omega)
    rw [e5] at g1
    rw [wsum] at f1 g1
    rw [m2, m1, z1, mul_assoc (Ideal.exp _) (coef _ _ _ _ _), ← EReal.coe_sub, Ideal.exp_coe, ← EReal.coe_sub, Ideal.exp_coe, f1]
    rw [← g1]
    refine congrArg₂ (HAdd.hAdd : EReal → EReal → EReal) rfl ?_
    rw [← mul_assoc, ← EReal.coe_mul, ← Real.exp_add]
    congr 3
    show _ = ps (starts U) x wq wk b (512 + (r.val - 512)) - ps (starts U) x wq wk b 512 + (ps (starts U) x wq wk b 512 - ps (starts U) x wq wk b 511)
    ring
end

end Cert.Proof.KVal
end
-- ==== Proof.KIValue.lean ====
module

public import proofs.«01_k».proof.Proof.KIRun
public import proofs.«01_k».proof.Proof.KVal

/-! The ideal kernel's result: what the scratch buffers hold before each step, and that every step keeps it, so that each
element of the result is the token plus the state after it. -/

@[expose] public section

set_option maxRecDepth 16384

noncomputable section

namespace Cert.Proof.KIValue
open Cert.KernelIdeal Cert.KernelIdeal.Gen Cert.Proof.KIStep Cert.Proof.KIRun Cert.Proof.KVal
open Idealize.ShloMosaic Idealize.ShloMosaic.TcCoe Cert.Proof.Spec Cert.Proof.Args
open Idealize.SL Idealize.SL.Sem

/-! ## Slots -/

/-- A slot of the ring of probabilities, entry by entry. -/
theorem slotP_ap (n : ℕ) (h : n % 2 < 2) (P : S2x1024x1.Idx → EReal) (r : Fin 1024) : slotP (F := Ideal) (n % 2) h P (ix2 r 0) = P (ix3 ⟨n % 2, h⟩ r 0) := by
  unfold slotP
  have e : ∀ x : S1x1024x1.Idx → EReal, k0_pay1 (F := Ideal) x (ix2 r 0) = x (ix3 0 r 0) := fun x => by pointwise [k0_pay1]
  refine (e _).trans (congrArg P (funext fun k => Fin.ext ?_))
  fin_cases k <;> show _ + 1 * _ = _ <;> simp [ix3]

/-- A slot of the ring of projections, entry by entry. -/
theorem slotY_ap (n : ℕ) (h : n % 2 < 2) (P : S2x1024x512.Idx → EReal) (r : Fin 1024) (d : Fin 512) :
    slotY (F := Ideal) (n % 2) h P (ix2 r d) = P (ix3 ⟨n % 2, h⟩ r d) := by
  unfold slotY
  have e : ∀ x : S1x1024x512.Idx → EReal, k0_pay2 (F := Ideal) x (ix2 r d) = x (ix3 0 r d) := fun x => by pointwise [k0_pay2]
  refine (e _).trans (congrArg P (funext fun k => Fin.ext ?_))
  fin_cases k <;> show _ + 1 * _ = _ <;> simp [ix3]

/-- The slot just written of the ring of probabilities, entry by entry. -/
theorem putP_ap (n : ℕ) (a : Fin 2) (h : a.val = n % 2) (P : S2x1024x1.Idx → EReal) (w : S1x1024x1.Idx → EReal) (r : Fin 1024) :
    VecWindow.put (s := S2x1024x1) P ![n % 2, 0, 0] S1x1024x1.size w (ix3 a r 0) = w (ix3 0 r 0) := by
  have hh : ∀ k, (![n % 2, 0, 0] : Fin 3 → ℕ) k ≤ (ix3 a r (0 : Fin 1) k).val ∧ (ix3 a r (0 : Fin 1) k).val < (![n % 2, 0, 0] : Fin 3 → ℕ) k + S1x1024x1.size k := by
    intro k
    fin_cases k
    · show n % 2 ≤ a.val ∧ a.val < n % 2 + 1; omega
    · show 0 ≤ r.val ∧ r.val < 0 + 1024; omega
    · show 0 ≤ 0 ∧ 0 < 0 + 1; omega
  refine (dif_pos hh).trans (congrArg w (funext fun k => Fin.ext ?_))
  fin_cases k
  · show a.val - n % 2 = 0; omega
  · show r.val - 0 = r.val; omega
  · rfl

/-- The slot just written of the ring of projections, entry by entry. -/
theorem putY_ap (n : ℕ) (a : Fin 2) (h : a.val = n % 2) (P : S2x1024x512.Idx → EReal) (w : S1x1024x512.Idx → EReal) (r : Fin 1024) (d : Fin 512) :
    VecWindow.put (s := S2x1024x512) P ![n % 2, 0, 0] S1x1024x512.size w (ix3 a r d) = w (ix3 0 r d) := by
  have hh : ∀ k, (![n % 2, 0, 0] : Fin 3 → ℕ) k ≤ (ix3 a r d k).val ∧ (ix3 a r d k).val < (![n % 2, 0, 0] : Fin 3 → ℕ) k + S1x1024x512.size k := by
    intro k
    fin_cases k
    · show n % 2 ≤ a.val ∧ a.val < n % 2 + 1; omega
    · show 0 ≤ r.val ∧ r.val < 0 + 1024; omega
    · show 0 ≤ d.val ∧ d.val < 0 + 512; omega
  refine (dif_pos hh).trans (congrArg w (funext fun k => Fin.ext ?_))
  fin_cases k
  · show a.val - n % 2 = 0; omega
  · show r.val - 0 = r.val; omega
  · show d.val - 0 = d.val; omega

/-! ## The projections and the probabilities of a block -/

/-- The last row of the block times the first weight matrix. -/
theorem pay7_ap (x : S1024x512.Idx → EReal) (w : S512x512.Idx → EReal) (d : Fin 512) :
    k0_pay7 (F := Ideal) x w (ix2 0 d) = ∑ k, x (ix2 1023 k) * w (ix2 k d) := by
  pointwise [k0_pay7, k0_pay3]

/-- The block times the third weight matrix, entry by entry. -/
theorem pay12_ap (x : S1024x512.Idx → EReal) (w : S512x512.Idx → EReal) (r : Fin 1024) (d : Fin 512) :
    k0_pay12 (k0_pay5 (F := Ideal) x w) (ix3 0 r d) = ∑ k, x (ix2 r k) * w (ix2 k d) := by
  pointwise [k0_pay12, k0_pay5]

/-- The probability at a row, of the query row before it and its key row. -/
theorem pV_ap (i : grid0.Coords) (qc : S1x512.Idx → EReal) (x : S1024x512.Idx → EReal) (wq wk : S512x512.Idx → EReal) (t : Fin 1024)
    (Q K : Fin 512 → EReal)
    (hQ : ∀ e : Fin 512, (if h : t.val < 1 then Scalar.select (Scalar.cmpi .eq (BitVec.ofNat 32 (i 0).val) 0#32) 0 (qc (ix2 0 e))
      else ∑ k, x (ix2 ⟨t.val - 1, by omega⟩ k) * wq (ix2 k e)) = Q e)
    (hK : ∀ e : Fin 512, (∑ k, x (ix2 t k) * wk (ix2 k e)) = K e) :
    pV (F := Ideal) i qc x wq wk (ix3 0 t 0) = prob (∑ e, Q e * K e) (∑ e, Q e * Q e) (∑ e, K e * K e) := by
  have h6 : ∀ e : Fin 512, k0_pay6 (F := Ideal) i qc x wq (ix2 t e) = Q e := fun e => by
    refine Eq.trans ?_ (hQ e)
    pointwise [k0_pay6, k0_pay3]
    by_cases h : t.val < 1
    · have e0 : (⟨t.val, by omega⟩ : Fin 1) = 0 := Fin.ext (by show t.val = 0; omega)
      rw [dif_pos h, dif_pos h]
      exact congrArg (fun j => Scalar.select _ 0 (qc (ix2 j e))) e0
    · rw [dif_neg h, dif_neg h]
  have h4 : ∀ e : Fin 512, k0_pay4 (F := Ideal) x wk (ix2 t e) = K e := fun e => by
    refine Eq.trans ?_ (hK e)
    pointwise [k0_pay4]
  unfold pV
  pointwise [k0_pay11, k0_pay8, k0_pay9, k0_pay10]
  simp only [h6, h4]
  rfl

/-! ## The invariant -/

variable (m : (ℓ : Loc nD τ sig) → Buf (Elt Ideal) ℓ)

/-- The four functions of the arguments' arrays at a core. -/
def X (c : Dev nD) : Toks := toks (m ((c : Thread nD τ).loc main_arg0))
/-- The table of starts, as launched. -/
def C (c : Dev nD) : Fin 9 → BitVec 32 := starts (m ((c : Thread nD τ).loc main_arg1))
/-- The first weight matrix, as launched. -/
def Wq (c : Dev nD) : Wt := wt (m ((c : Thread nD τ).loc main_arg2))
/-- The second weight matrix, as launched. -/
def Wk (c : Dev nD) : Wt := wt (m ((c : Thread nD τ).loc main_arg3))
/-- The third weight matrix, as launched. -/
def Wm (c : Dev nD) : Wt := wt (m ((c : Thread nD τ).loc main_arg4))

/-- Before step `t`: the carried state is the one at the start of block `t - 1`, the carried query is that block's last, and
the slot of block `t - 1` holds its probabilities and its projections. -/
def Inv (c : Dev nD) (t : ℕ) : Scr Ideal := fun q z p y => 1 ≤ t →
  (∀ d : Fin 512, z (ix2 0 d) = state (C m c) (X m c) (Wq m c) (Wk m c) (Wm m c) (1024 * (t - 1)) d)
  ∧ (t ≤ 16 → (∀ d : Fin 512, q (ix2 0 d) = proj (X m c) (Wq m c) (1024 * t - 1) d)
    ∧ (∀ r : Fin 1024, 1024 * (t - 1) + r.val ≠ 0 → p (ix3 ⟨(t + 1) % 2, lt2 _⟩ r 0) = praw (X m c) (Wq m c) (Wk m c) (1024 * (t - 1) + r.val))
    ∧ (∀ (r : Fin 1024) (d : Fin 512), y (ix3 ⟨(t + 1) % 2, lt2 _⟩ r d) = proj (X m c) (Wm m c) (1024 * (t - 1) + r.val) d))

/-- The block of the tokens a step projects. -/
def blk1 (c : Dev nD) (t : Fin cfg0.N) : S1024x512.Idx → EReal := iblk m c 1 t
/-- The block of the tokens a step adds the states to. -/
def blk2 (c : Dev nD) (t : Fin cfg0.N) : S1024x512.Idx → EReal := iblk m c 2 t

/-- A step's block of the tokens, projected. -/
theorem blk_proj (c : Dev nD) (t : Fin cfg0.N) (ht : t.val ≤ 15) (w : S512x512.Idx → EReal) (W : Wt) (hw : ∀ k e : Fin 512, w (ix2 k e) = W k e)
    (r : Fin 1024) (e : Fin 512) : (∑ k : Fin 512, blk1 m c t (ix2 r k) * w (ix2 k e)) = proj (X m c) W (1024 * t.val + r.val) e := by
  refine Finset.sum_congr rfl fun k _ => ?_
  rw [hw]
  refine congrArg (· * W k e) ((iblk1 m c t r k).trans ?_)
  refine ((toks_of_lt _ (1024 * t.val + r.val) (by omega) k).trans (congrArg (fun j => m ((c : Thread nD τ).loc main_arg0) (ix2 j k)) (Fin.ext ?_))).symm
  show 1024 * t.val + r.val = 1024 * min t.val 15 + r.val
  omega

/-- The word of a step's number is zero at step zero only. -/
theorem step_zero (n : ℕ) (hn : n < 17) (v w : EReal) : Scalar.select (Scalar.cmpi .eq (BitVec.ofNat 32 n) 0#32) v w = if n = 0 then v else w := by
  by_cases h : n = 0
  · subst h; rfl
  · rw [if_neg h]
    refine if_neg fun h' => h ?_
    have := congrArg BitVec.toNat (IntOp.cmpi_eq.mp h')
    simp only [BitVec.toNat_ofNat] at this
    omega

/-- Every step keeps the invariant and writes its block of the result. -/
theorem steps (hS : ∀ c, Starts (C m c)) :
    Steps m (Inv m) (Blk fun c t d => out (C m c) (X m c) (Wq m c) (Wk m c) (Wm m c) t.val d) := by
  intro c t q z p y hI
  have h17 := lt17 t
  have hc := coords_val t
  -- the states of the block before
  have hZ : 1 ≤ t.val → ∀ (r : Fin 1024) (d : Fin 512),
      zV (F := Ideal) (cfg0.grid.coords t) (iblk m c 0 t) (slotP _ (lt2 (((cfg0.grid.coords t) 0).val + 1)) p) (slotY _ (lt2 (((cfg0.grid.coords t) 0).val + 1)) y) z (ix2 r d)
        = state (C m c) (X m c) (Wq m c) (Wk m c) (Wm m c) (1024 * (t.val - 1) + r.val + 1) d := by
    intro h1 r d
    obtain ⟨hz, hr⟩ := hI h1
    obtain ⟨hq, hp, hy⟩ := hr (by omega)
    have hU : (iblk m c 0 t : S9.Idx → BitVec 32) = m ((c : Thread nD τ).loc main_arg1) := funext fun y => iblk0 m c t y
    rw [hU]
    have hb : t.val - 1 < 16 := by omega
    have hi : ((cfg0.grid.coords t) 0).val = t.val - 1 + 1 := by rw [hc]; omega
    refine zV_eq (cfg0.grid.coords t) _ (t.val - 1) hb hi (X m c) (Wq m c) (Wk m c) (Wm m c) _ (fun r => ?_) (hS c) _ (fun r d => ?_) z hz r d
    · by_cases h0 : 1024 * (t.val - 1) + r.val = 0
      · exact Or.inl (by rw [h0]; exact (hS c).isf_zero)
      · refine Or.inr (((slotP_ap _ _ p r).trans ?_).trans (hp r h0))
        exact congrArg (fun j => p (ix3 j r 0)) (Fin.ext (by show (_ + 1) % 2 = _; rw [hc]))
    · refine ((slotY_ap _ _ y r d).trans ?_).trans (hy r d)
      exact congrArg (fun j => y (ix3 j r d)) (Fin.ext (by show (_ + 1) % 2 = _; rw [hc]))
  refine ⟨fun _ => ⟨fun d => ?_, fun h15 => ⟨fun d => ?_, fun r h0 => ?_, fun r d => ?_⟩⟩, fun h1 r d => ?_⟩
  · -- the carried state
    have e : cV (F := Ideal) (cfg0.grid.coords t) (iblk m c 0 t) (slotP _ (lt2 (((cfg0.grid.coords t) 0).val + 1)) p) (slotY _ (lt2 (((cfg0.grid.coords t) 0).val + 1)) y) z (ix2 0 d)
        = Scalar.select (Scalar.cmpi .eq (BitVec.ofNat 32 ((cfg0.grid.coords t) 0).val) 0#32) 0
            (zV (F := Ideal) (cfg0.grid.coords t) (iblk m c 0 t) (slotP _ (lt2 (((cfg0.grid.coords t) 0).val + 1)) p) (slotY _ (lt2 (((cfg0.grid.coords t) 0).val + 1)) y) z (ix2 1023 d)) := by
      unfold cV zV
      pointwise [k0_pay29]
    refine e.trans ((congrArg (fun n => Scalar.select (Scalar.cmpi .eq (BitVec.ofNat 32 n) 0#32) 0 _) hc).trans ((step_zero _ h17 _ _).trans ?_))
    by_cases h : t.val = 0
    · rw [if_pos h, h]; rfl
    · rw [if_neg h, hZ (by omega) 1023 d]
      congr 1
      show 1024 * (t.val - 1) + 1023 + 1 = 1024 * (t.val + 1 - 1)
      omega
  · refine ((pay7_ap _ _ d).trans (blk_proj m c t (by omega) _ (Wq m c) (fun k e => iblk3 m c t k e) 1023 d)).trans ?_
    congr 1
  · -- the probabilities
    rw [Nat.add_sub_cancel] at h0 ⊢
    refine (putP_ap _ _ (by show (t.val + 1 + 1) % 2 = _ % 2; rw [hc]; omega) p _ r).trans ?_
    refine pV_ap _ q _ _ _ r (fun e => proj (X m c) (Wq m c) (1024 * t.val + r.val - 1) e) (fun e => proj (X m c) (Wk m c) (1024 * t.val + r.val) e) (fun e => ?_)
      (fun e => blk_proj m c t (by omega) _ (Wk m c) (fun k e => iblk4 m c t k e) r e)
    by_cases h : r.val < 1
    · have ht : 1 ≤ t.val := by omega
      rw [dif_pos h, hc, step_zero _ h17, if_neg (by omega), ((hI ht).2 (by omega)).1 e]
      congr 1
      omega
    · rw [dif_neg h]
      refine (blk_proj m c t (by omega) _ (Wq m c) (fun k e => iblk3 m c t k e) ⟨r.val - 1, by omega⟩ e).trans ?_
      congr 1
      show 1024 * t.val + (r.val - 1) = _
      omega
  · rw [Nat.add_sub_cancel]
    refine (putY_ap _ _ (by show (t.val + 1 + 1) % 2 = _ % 2; rw [hc]; omega) y _ r d).trans ?_
    exact (pay12_ap _ _ r d).trans (blk_proj m c t (by omega) _ (Wm m c) (fun k e => iblk5 m c t k e) r d)
  · -- the block written
    have g : ∀ v : S1024x512.Idx → EReal, oV (F := Ideal) (cfg0.grid.coords t) (iblk m c 0 t) (slotP _ (lt2 (((cfg0.grid.coords t) 0).val + 1)) p) (slotY _ (lt2 (((cfg0.grid.coords t) 0).val + 1)) y) z v (ix2 r d)
        = v (ix2 r d)
          + zV (F := Ideal) (cfg0.grid.coords t) (iblk m c 0 t) (slotP _ (lt2 (((cfg0.grid.coords t) 0).val + 1)) p) (slotY _ (lt2 (((cfg0.grid.coords t) 0).val + 1)) y) z (ix2 r d) := fun v => by
      unfold oV zV
      pointwise [k0_pay30]
    refine (g (blk2 m c t)).trans ?_
    rw [hZ h1 r d]
    refine congrArg (· + state (C m c) (X m c) (Wq m c) (Wk m c) (Wm m c) (1024 * (t.val - 1) + r.val + 1) d) ((iblk2 m c t r d).trans ?_)
    exact (toks_of_lt _ (1024 * (t.val - 1) + r.val) (by omega) d).symm

/-- The ideal kernel's run: the result is the specification's, and the arguments are as launched. -/
theorem result (ρ : Dev nD → PrngReg) (hS : ∀ c, Starts (C m c)) :
    θ_run defs (onTc (main (F := Ideal))) ⟨m, fun _ => 0, ρ⟩ (fun r => ∀ c : Dev nD,
      r.2.mem ((c : Thread nD τ).loc main_v0) = (fun i : S16384x512.Idx => out (C m c) (X m c) (Wq m c) (Wk m c) (Wm m c) (i 0).val (i 1))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) :=
  KIRun.result m ρ (Inv m) _ (fun c q z p y h => absurd h (by decide)) (steps m hS)

end Cert.Proof.KIValue
end
-- ==== Proof.RefVals.lean ====
module

public import proofs.«01_k».proof.Proof.RefRun
public import Idealize.ShloMosaic.Lib.Pointwise
public import Idealize.ShloMosaic.Lib.StableHlo.ReadAt
public import Idealize.ShloMosaic.Lib.Routing.Model

/-! What each stretch of the reference's operations computes, at an index or as a whole array, in terms of the buffers it reads. -/

@[expose] public section

set_option maxRecDepth 16384

noncomputable section

namespace Cert.Proof.RefVals
open Cert.ReferenceIdeal Cert.ReferenceIdeal.Gen Cert.ReferenceIdeal.Value
open Idealize.ShloMosaic Idealize.ShloMosaic.TcCoe Idealize.ShloMosaic.StableHlo

variable (V : Valuation τ sig (Elt Ideal))

/-! Typed readers: the array in a buffer. -/

/-- The contents of `main_arg0`. -/
def arg0 : S16384x512.Idx → EReal := V (Proc.devRef .tc main_arg0)
/-- The contents of `main_arg1`. -/
def arg1 : S9.Idx → BitVec 32 := V (Proc.devRef .tc main_arg1)
/-- The contents of `main_arg2`. -/
def arg2 : S512x512.Idx → EReal := V (Proc.devRef .tc main_arg2)
/-- The contents of `main_arg3`. -/
def arg3 : S512x512.Idx → EReal := V (Proc.devRef .tc main_arg3)
/-- The contents of `main_arg4`. -/
def arg4 : S512x512.Idx → EReal := V (Proc.devRef .tc main_arg4)
/-- The contents of `main_v9`. -/
def v9 : S16384.Idx → BitVec 32 := V (Proc.devRef .tc main_v9)
/-- The contents of `main_v10`. -/
def v10 : S16384.Idx → BitVec 32 := V (Proc.devRef .tc main_v10)
/-- The contents of `main_v13`. -/
def v13 : S16383x512.Idx → EReal := V (Proc.devRef .tc main_v13)
/-- The contents of `main_v14`. -/
def v14 : S16383x512.Idx → EReal := V (Proc.devRef .tc main_v14)
/-- The contents of `main_v16`. -/
def v16 : S16383.Idx → EReal := V (Proc.devRef .tc main_v16)
/-- The contents of `main_v17`. -/
def v17 : S16383.Idx → EReal := V (Proc.devRef .tc main_v17)
/-- The contents of `main_v18`. -/
def v18 : S16383.Idx → EReal := V (Proc.devRef .tc main_v18)
/-- The contents of `main_v26`. -/
def v26 : S16383.Idx → EReal := V (Proc.devRef .tc main_v26)
/-- The contents of `main_cst_6`. -/
def cst_6 : S_.Idx → EReal := V (Proc.devRef .tc main_cst_6)
/-- The contents of `main_cst_7`. -/
def cst_7 : S_.Idx → EReal := V (Proc.devRef .tc main_cst_7)
/-- The contents of `main_v27`. -/
def v27 : S16383.Idx → EReal := V (Proc.devRef .tc main_v27)
/-- The contents of `main_v29`. -/
def v29 : S16384.Idx → EReal := V (Proc.devRef .tc main_v29)
/-- The contents of `main_v39`. -/
def v39 : S16384.Idx → BitVec 1 := V (Proc.devRef .tc main_v39)
/-- The contents of `main_cst_13`. -/
def cst_13 : S_.Idx → EReal := V (Proc.devRef .tc main_cst_13)
/-- The contents of `main_v40`. -/
def v40 : S16384.Idx → EReal := V (Proc.devRef .tc main_v40)
/-- The contents of `main_cst_14`. -/
def cst_14 : S_.Idx → EReal := V (Proc.devRef .tc main_cst_14)
/-- The contents of `main_cst_15`. -/
def cst_15 : S_.Idx → EReal := V (Proc.devRef .tc main_cst_15)
/-- The contents of `main_v41`. -/
def v41 : S16384.Idx → EReal := V (Proc.devRef .tc main_v41)
/-- The contents of `main_v43`. -/
def v43 : S16384.Idx → BitVec 1 := V (Proc.devRef .tc main_v43)
/-- The contents of `main_v44`. -/
def v44 : S16384.Idx → BitVec 32 := V (Proc.devRef .tc main_v44)
/-- The contents of `main_v53`. -/
def v53 : S16384.Idx → BitVec 32 := V (Proc.devRef .tc main_v53)
/-- The contents of `main_v54`. -/
def v54 : S16384.Idx → BitVec 32 := V (Proc.devRef .tc main_v54)
/-- The contents of `main_c_21`. -/
def c_21 : S_.Idx → BitVec 32 := V (Proc.devRef .tc main_c_21)
/-- The contents of `main_v55`. -/
def v55 : S16384.Idx → BitVec 32 := V (Proc.devRef .tc main_v55)
/-- The contents of `main_c_22`. -/
def c_22 : S_.Idx → BitVec 32 := V (Proc.devRef .tc main_c_22)
/-- The contents of `main_v56`. -/
def v56 : S16384.Idx → BitVec 32 := V (Proc.devRef .tc main_v56)
/-- The contents of `main_v62`. -/
def v62 : S16384.Idx → BitVec 1 := V (Proc.devRef .tc main_v62)
/-- The contents of `main_v63`. -/
def v63 : S1.Idx → BitVec 32 := V (Proc.devRef .tc main_v63)
/-- The contents of `main_v64`. -/
def v64 : S16384.Idx → BitVec 32 := V (Proc.devRef .tc main_v64)
/-- The contents of `main_v65`. -/
def v65 : S16384x512.Idx → EReal := V (Proc.devRef .tc main_v65)
/-- The contents of `main_v66`. -/
def v66 : S16384x512.Idx → EReal := V (Proc.devRef .tc main_v66)
/-- The contents of `main_v67`. -/
def v67 : S16384.Idx → EReal := V (Proc.devRef .tc main_v67)
/-- The contents of `main_v68`. -/
def v68 : S16384.Idx → BitVec 32 := V (Proc.devRef .tc main_v68)
/-- The contents of `main_v73`. -/
def v73 : S16384.Idx → BitVec 1 := V (Proc.devRef .tc main_v73)
/-- The contents of `main_v75`. -/
def v75 : S16384.Idx → EReal := V (Proc.devRef .tc main_v75)
/-- The contents of `main_cst_27`. -/
def cst_27 : S_.Idx → EReal := V (Proc.devRef .tc main_cst_27)
/-- The contents of `main_v76`. -/
def v76 : S16384.Idx → EReal := V (Proc.devRef .tc main_v76)
/-- The contents of `main_v79`. -/
def v79 : S16384x512.Idx → EReal := V (Proc.devRef .tc main_v79)
/-- The contents of `main_v82_0`. -/
def v82_0 : S16384.Idx → EReal := V (Proc.devRef .tc main_v82_0)
/-- The contents of `main_v82_1`. -/
def v82_1 : S16384x512.Idx → EReal := V (Proc.devRef .tc main_v82_1)
/-- The contents of `main_v82_2`. -/
def v82_2 : S_.Idx → BitVec 32 := V (Proc.devRef .tc main_v82_2)
/-- The contents of `main_v82_3`. -/
def v82_3 : S512.Idx → EReal := V (Proc.devRef .tc main_v82_3)
/-- The contents of `main_v82_4`. -/
def v82_4 : S16384x512.Idx → EReal := V (Proc.devRef .tc main_v82_4)
/-- The contents of `main_v83`. -/
def v83 : S16384.Idx → BitVec 32 := V (Proc.devRef .tc main_v83)
/-- The contents of `main_v84`. -/
def v84 : S16384.Idx → BitVec 32 := V (Proc.devRef .tc main_v84)
/-- The contents of `main_v86`. -/
def v86 : S16384.Idx → BitVec 32 := V (Proc.devRef .tc main_v86)
/-- The contents of `main_c_32`. -/
def c_32 : S_.Idx → BitVec 32 := V (Proc.devRef .tc main_c_32)
/-- The contents of `main_c_33`. -/
def c_33 : S_.Idx → BitVec 32 := V (Proc.devRef .tc main_c_33)
/-- The contents of `main_v87`. -/
def v87 : S16384.Idx → BitVec 32 := V (Proc.devRef .tc main_v87)
/-- The contents of `main_v88`. -/
def v88 : S16384x512.Idx → EReal := V (Proc.devRef .tc main_v88)
/-- The contents of `main_v90`. -/
def v90 : S16384.Idx → EReal := V (Proc.devRef .tc main_v90)
/-- The contents of `main_v91`. -/
def v91 : S16384.Idx → EReal := V (Proc.devRef .tc main_v91)
/-- The contents of `main_v98`. -/
def v98 : S16384x512.Idx → EReal := V (Proc.devRef .tc main_v98)

/-- Indices as the reference wraps them: a negative one counts from the end. -/
def wrapped (w : S16384.Idx → BitVec 32) : S16384.Idx → BitVec 32 :=
  select (cmpi .slt w (broadcastInDim S16384 ![] bcast_S_S16384 (constantI S_ 32 0#32))) (addi w (broadcastInDim S16384 ![] bcast_S_S16384 (constantI S_ 32 16384#32))) w

/-- Whether each wrapped index is inside the array. -/
def inside (w : S16384.Idx → BitVec 32) : S16384.Idx → BitVec 1 :=
  Host.reduce IntOp.andi (andi (cmpi .sge (broadcastInDim S16384x1 ![0] bcast_S16384_S16384x1_0 (wrapped w)) (broadcastInDim S16384x1 ![] bcast_S_S16384x1 (constantI S_ 32 0#32)))
    (cmpi .sle (broadcastInDim S16384x1 ![0] bcast_S16384_S16384x1_0 (wrapped w)) (broadcastInDim S16384x1 ![0, 1] bcast_S1x1_S16384x1_0_1 (broadcastInDim S1x1 ![1] bcast_S1_S1x1_1 (constantI S1 32 16383#32)))))
    (constantI S_ 1 1#1) reducesTo_S16384x1_S16384_d1 h_S_

/-! The stretches. -/

/-- What its stretch leaves in `v13`, at an entry, from the buffers the stretch reads. -/
theorem s_v13 (t : Fin 16383) (e : Fin 512) : v13 (after hostOps0_2 V) (ix2 t e) = ∑ k, arg0 V (ix2 (⟨t.val, by omega⟩ : Fin 16384) k) * arg2 V (ix2 k e) := by
  unfold v13 arg0 arg2
  simp only [hostOps0_2]
  after_reads_at
  all_goals pointwise
  all_goals rfl

/-- What its stretch leaves in `v14`, at an entry, from the buffers the stretch reads. -/
theorem s_v14 (t : Fin 16383) (e : Fin 512) : v14 (after hostOps0_2 V) (ix2 t e) = ∑ k, arg0 V (ix2 (⟨1 + t.val, by omega⟩ : Fin 16384) k) * arg3 V (ix2 k e) := by
  unfold v14 arg0 arg3
  simp only [hostOps0_2]
  after_reads_at
  all_goals pointwise
  all_goals rfl

/-- What its stretch leaves in `v16`, at an entry, from the buffers the stretch reads. -/
theorem s_v16 (t : Fin 16383) : v16 (after hostOps0_2 V) (ix1 t) = ∑ e, (∑ k, arg0 V (ix2 (⟨t.val, by omega⟩ : Fin 16384) k) * arg2 V (ix2 k e)) * ∑ k, arg0 V (ix2 (⟨1 + t.val, by omega⟩ : Fin 16384) k) * arg3 V (ix2 k e) := by
  unfold v16 arg0 arg2 arg3
  simp only [hostOps0_2]
  after_reads_at
  all_goals pointwise
  all_goals rfl

/-- What its stretch leaves in `v17`, at an entry, from the buffers the stretch reads. -/
theorem s_v17 (t : Fin 16383) : v17 (after hostOps0_3 V) (ix1 t) = Ideal.sqrt (∑ e, v13 V (ix2 t e) * v13 V (ix2 t e)) := by
  unfold v17 v13
  simp only [hostOps0_3]
  after_reads_at
  all_goals pointwise
  all_goals rfl

/-- What its stretch leaves in `v18`, at an entry, from the buffers the stretch reads. -/
theorem s_v18 (t : Fin 16383) : v18 (after hostOps0_4 V) (ix1 t) = Ideal.sqrt (∑ e, v14 V (ix2 t e) * v14 V (ix2 t e)) := by
  unfold v18 v14
  simp only [hostOps0_4]
  after_reads_at
  all_goals pointwise
  all_goals rfl

/-- What its stretch leaves in `v26`, at an entry, from the buffers the stretch reads. -/
theorem s_v26 (t : Fin 16383) : v26 (after hostOps0_5 V) (ix1 t) = Ideal.div (1 - Ideal.div (v16 V (ix1 t)) (v17 V (ix1 t) * v18 V (ix1 t) + Ideal.ofBits .f32 0x358637BD#32)) (Ideal.ofBits .f32 0x40000000#32) := by
  unfold v26 v16 v17 v18
  simp only [hostOps0_5]
  after_reads_at
  all_goals pointwise
  all_goals rfl

/-- What its stretch leaves in `cst_6`, at an entry, from the buffers the stretch reads. -/
theorem s_cst_6  : cst_6 (after hostOps0_5 V) ix0 = 0 := by
  unfold cst_6
  simp only [hostOps0_5]
  after_reads_at
  all_goals pointwise
  all_goals rfl

/-- What its stretch leaves in `cst_7`, at an entry, from the buffers the stretch reads. -/
theorem s_cst_7  : cst_7 (after hostOps0_5 V) ix0 = 1 := by
  unfold cst_7
  simp only [hostOps0_5]
  after_reads_at
  all_goals pointwise
  all_goals rfl

/-- What its stretch leaves in `v27`, at an entry, from the buffers the stretch reads. -/
theorem s_v27 (t : Fin 16383) : v27 (after hostOps0_6 V) (ix1 t) = min ((cst_7 V) ix0) (max ((cst_6 V) ix0) (v26 V (ix1 t))) := by
  unfold v27 cst_7 cst_6 v26
  simp only [hostOps0_6]
  after_reads_at
  all_goals pointwise
  all_goals rfl

/-- What its stretch leaves in `v29`, at an entry, from the buffers the stretch reads. -/
theorem s_v29 (t : Fin 16384) : v29 (after hostOps0_7 V) (ix1 t) = if h : t.val < 1 then 1 else v27 V (ix1 (⟨t.val - 1, by omega⟩ : Fin 16383)) := by
  unfold v29 v27
  simp only [hostOps0_7]
  after_reads_at
  all_goals pointwise
  all_goals rfl

/-- What its stretch leaves in `cst_13`, at an entry, from the buffers the stretch reads. -/
theorem s_cst_13  : cst_13 (after hostOps0_7 V) ix0 = 1 := by
  unfold cst_13
  simp only [hostOps0_7]
  after_reads_at
  all_goals pointwise
  all_goals rfl

/-- What its stretch leaves in `v40`, at an entry, from the buffers the stretch reads. -/
theorem s_v40 (t : Fin 16384) : v40 (after hostOps0_8 V) (ix1 t) = Scalar.select (v39 V (ix1 t)) ((cst_13 V) ix0) (v29 V (ix1 t)) := by
  unfold v40 v39 cst_13 v29
  simp only [hostOps0_8]
  after_reads_at
  all_goals pointwise
  all_goals rfl

/-- What its stretch leaves in `cst_14`, at an entry, from the buffers the stretch reads. -/
theorem s_cst_14  : cst_14 (after hostOps0_9 V) ix0 = Ideal.ofBits .f32 0x38D1B717#32 := by
  unfold cst_14
  simp only [hostOps0_9]
  after_reads_at
  all_goals pointwise
  all_goals rfl

/-- What its stretch leaves in `cst_15`, at an entry, from the buffers the stretch reads. -/
theorem s_cst_15  : cst_15 (after hostOps0_9 V) ix0 = Ideal.ofBits .f32 0x3F7FF972#32 := by
  unfold cst_15
  simp only [hostOps0_9]
  after_reads_at
  all_goals pointwise
  all_goals rfl

/-- What its stretch leaves in `v41`, at an entry, from the buffers the stretch reads. -/
theorem s_v41 (t : Fin 16384) : v41 (after hostOps0_10 V) (ix1 t) = min ((cst_15 V) ix0) (max ((cst_14 V) ix0) (v40 V (ix1 t))) := by
  unfold v41 cst_15 cst_14 v40
  simp only [hostOps0_10]
  after_reads_at
  all_goals pointwise
  all_goals rfl

/-- What its stretch leaves in `v43`, at an entry, from the buffers the stretch reads. -/
theorem s_v43 (t : Fin 16384) : v43 (after hostOps0_11 V) (ix1 t) = BitVec.ofBool (decide (Ideal.ofBits .f32 0x3F000000#32 ≤ v41 V (ix1 t))) := by
  unfold v43 v41
  simp only [hostOps0_11]
  after_reads_at
  all_goals pointwise
  all_goals rfl

/-- What its stretch leaves in `c_21`, at an entry, from the buffers the stretch reads. -/
theorem s_c_21  : c_21 (after hostOps0_15 V) ix0 = 1#32 := by
  unfold c_21
  simp only [hostOps0_15]
  after_reads_at
  all_goals pointwise
  all_goals rfl

/-- What its stretch leaves in `c_22`, at an entry, from the buffers the stretch reads. -/
theorem s_c_22  : c_22 (after hostOps0_17 V) ix0 = 16384#32 := by
  unfold c_22
  simp only [hostOps0_17]
  after_reads_at
  all_goals pointwise
  all_goals rfl

/-- What its stretch leaves in `v63`, at an entry, from the buffers the stretch reads. -/
theorem s_v63  : v63 (after hostOps0_19 V) (ix1 0) = 16383#32 := by
  unfold v63
  simp only [hostOps0_19]
  after_reads_at
  all_goals pointwise
  all_goals rfl

/-- What its stretch leaves in `v64`, at an entry, from the buffers the stretch reads. -/
theorem s_v64 (t : Fin 16384) : v64 (after hostOps0_20 V) (ix1 t) = Scalar.select (v62 V (ix1 t)) (v63 V (ix1 0)) (v56 V (ix1 t)) := by
  unfold v64 v62 v63 v56
  simp only [hostOps0_20]
  after_reads_at
  all_goals pointwise
  all_goals rfl

/-- What its stretch leaves in `v66`, at an entry, from the buffers the stretch reads. -/
theorem s_v66 (t : Fin 16384) (d : Fin 512) : v66 (after hostOps0_22 V) (ix2 t d) = ∑ k, v65 V (ix2 t k) * arg4 V (ix2 k d) := by
  unfold v66 v65 arg4
  simp only [hostOps0_22]
  after_reads_at
  all_goals pointwise
  all_goals rfl

/-- What its stretch leaves in `v73`, at an entry, from the buffers the stretch reads. -/
theorem s_v73 (t : Fin 16384) : v73 (after hostOps0_25 V) (ix1 t) = if h : t.val < 1 then 1#1 else IntOp.cmpi .ne (v68 V (ix1 (⟨1 + (t.val - 1), by omega⟩ : Fin 16384))) (v68 V (ix1 (⟨t.val - 1, by omega⟩ : Fin 16384))) := by
  unfold v73 v68
  simp only [hostOps0_25]
  after_reads_at
  all_goals pointwise
  all_goals rfl

/-- What its stretch leaves in `v75`, at an entry, from the buffers the stretch reads. -/
theorem s_v75 (t : Fin 16384) : v75 (after hostOps0_25 V) (ix1 t) = 1 - v67 V (ix1 t) := by
  unfold v75 v67
  simp only [hostOps0_25]
  after_reads_at
  all_goals pointwise
  all_goals rfl

/-- What its stretch leaves in `cst_27`, at an entry, from the buffers the stretch reads. -/
theorem s_cst_27  : cst_27 (after hostOps0_25 V) ix0 = 0 := by
  unfold cst_27
  simp only [hostOps0_25]
  after_reads_at
  all_goals pointwise
  all_goals rfl

/-- What its stretch leaves in `v76`, at an entry, from the buffers the stretch reads. -/
theorem s_v76 (t : Fin 16384) : v76 (after hostOps0_26 V) (ix1 t) = Scalar.select (v73 V (ix1 t)) ((cst_27 V) ix0) (v75 V (ix1 t)) := by
  unfold v76 v73 cst_27 v75
  simp only [hostOps0_26]
  after_reads_at
  all_goals pointwise
  all_goals rfl

/-- What its stretch leaves in `v79`, at an entry, from the buffers the stretch reads. -/
theorem s_v79 (t : Fin 16384) (d : Fin 512) : v79 (after hostOps0_27 V) (ix2 t d) = v67 V (ix1 t) * v66 V (ix2 t d) := by
  unfold v79 v67 v66
  simp only [hostOps0_27]
  after_reads_at
  all_goals pointwise
  all_goals rfl

/-- What its stretch leaves in `v82_0`, at an entry, from the buffers the stretch reads. -/
theorem s_v82_0 (t : Fin 16384) : v82_0 (after hostOps0_27 V) (ix1 t) = v76 V (ix1 t) := by
  unfold v82_0 v76
  simp only [hostOps0_27]
  after_reads_at
  all_goals pointwise
  all_goals rfl

/-- What its stretch leaves in `v82_1`, at an entry, from the buffers the stretch reads. -/
theorem s_v82_1 (t : Fin 16384) (d : Fin 512) : v82_1 (after hostOps0_27 V) (ix2 t d) = v67 V (ix1 t) * v66 V (ix2 t d) := by
  unfold v82_1 v67 v66
  simp only [hostOps0_27]
  after_reads_at
  simp only [id_eq]
  all_goals pointwise
  all_goals rfl

/-- What its stretch leaves in `v82_3`, at an entry, from the buffers the stretch reads. -/
theorem s_v82_3 (d : Fin 512) : v82_3 (after hostOps0_27 V) (ix1 d) = 0 := by
  unfold v82_3
  simp only [hostOps0_27]
  after_reads_at
  simp only [id_eq]
  all_goals pointwise
  all_goals rfl

/-- What its stretch leaves in `v82_4`, at an entry, from the buffers the stretch reads. -/
theorem s_v82_4 (t : Fin 16384) (d : Fin 512) : v82_4 (after hostOps0_27 V) (ix2 t d) = 0 := by
  unfold v82_4
  simp only [hostOps0_27]
  after_reads_at
  simp only [id_eq]
  all_goals pointwise
  all_goals rfl

/-- What its stretch leaves in `v83`, at an entry, from the buffers the stretch reads. -/
theorem s_v83 (t : Fin 16384) : v83 (after hostOps0_28 V) (ix1 t) = BitVec.setWidth 32 (v43 V (ix1 t)) := by
  unfold v83 v43
  simp only [hostOps0_28]
  after_reads_at
  all_goals pointwise
  all_goals rfl

/-- What its stretch leaves in `v86`, at an entry, from the buffers the stretch reads. -/
theorem s_v86 (t : Fin 16384) : v86 (after hostOps0_30 V) (ix1 t) = v84 V (ix1 t) - 1#32 := by
  unfold v86 v84
  simp only [hostOps0_30]
  after_reads_at
  all_goals pointwise
  all_goals rfl

/-- What its stretch leaves in `c_32`, at an entry, from the buffers the stretch reads. -/
theorem s_c_32  : c_32 (after hostOps0_30 V) ix0 = 0#32 := by
  unfold c_32
  simp only [hostOps0_30]
  after_reads_at
  all_goals pointwise
  all_goals rfl

/-- What its stretch leaves in `c_33`, at an entry, from the buffers the stretch reads. -/
theorem s_c_33  : c_33 (after hostOps0_30 V) ix0 = 16383#32 := by
  unfold c_33
  simp only [hostOps0_30]
  after_reads_at
  all_goals pointwise
  all_goals rfl

/-- What its stretch leaves in `v87`, at an entry, from the buffers the stretch reads. -/
theorem s_v87 (t : Fin 16384) : v87 (after hostOps0_31 V) (ix1 t) = IntOp.minsi ((c_33 V) ix0) (IntOp.maxsi ((c_32 V) ix0) (v86 V (ix1 t))) := by
  unfold v87 c_33 c_32 v86
  simp only [hostOps0_31]
  after_reads_at
  all_goals pointwise
  all_goals rfl

/-- What its stretch leaves in `v90`, at an entry, from the buffers the stretch reads. -/
theorem s_v90 (t : Fin 16384) : v90 (after hostOps0_33 V) (ix1 t) = 1 - v41 V (ix1 t) := by
  unfold v90 v41
  simp only [hostOps0_33]
  after_reads_at
  all_goals pointwise
  all_goals rfl

/-- What its stretch leaves in `v91`, at an entry, from the buffers the stretch reads. -/
theorem s_v91 (t : Fin 16384) : v91 (after hostOps0_34 V) (ix1 t) = Scalar.select (v43 V (ix1 t)) (v41 V (ix1 t)) (v90 V (ix1 t)) := by
  unfold v91 v43 v41 v90
  simp only [hostOps0_34]
  after_reads_at
  all_goals pointwise
  all_goals rfl

/-- What its stretch leaves in `v98`, at an entry, from the buffers the stretch reads. -/
theorem s_v98 (t : Fin 16384) (d : Fin 512) : v98 (after hostOps0_35 V) (ix2 t d) = arg0 V (ix2 t d) + v88 V (ix2 t d) * (v91 V (ix1 t) + (1 - v91 V (ix1 t))) := by
  unfold v98 arg0 v88 v91
  simp only [hostOps0_35]
  after_reads_at
  all_goals pointwise
  all_goals rfl

/-- What its stretch leaves in `v9`, at an entry, from the buffers the stretch reads. -/
theorem s_v9  : v9 (after hostOps0 V)  = Host.scatter scatter_S16384_S7x1_S7_n_0_0_1 (fun _ b => b) (broadcastInDim S16384 ![] bcast_S_S16384 (constantI S_ 32 0#32)) (broadcastInDim S7x1 ![0] bcast_S7_S7x1_0 (select (cmpi .slt (extractStridedSlice S7 ![1] (arg1 V) slices_S9_S7_1) (broadcastInDim S7 ![] bcast_S_S7 (constantI S_ 32 0#32))) (addi (extractStridedSlice S7 ![1] (arg1 V) slices_S9_S7_1) (broadcastInDim S7 ![] bcast_S_S7 (constantI S_ 32 16384#32))) (extractStridedSlice S7 ![1] (arg1 V) slices_S9_S7_1))) (broadcastInDim S7 ![] bcast_S_S7 (constantI S_ 32 1#32)) := by
  unfold v9 arg1
  simp only [hostOps0]
  after_reads_at
  all_goals rfl

/-- What its stretch leaves in `v10`, at an entry, from the buffers the stretch reads. -/
theorem s_v10  : v10 (after hostOps0_1 V)  = Host.reduceWindow IntOp.addi ![16384] ![1] ![16383] ![0] (v9 V) (broadcastInDim S_ ![] bcast_S_S_ (constantI S_ 32 0#32)) reduceWindows_S16384_S16384_w16384s1p16383_0 h_S_ := by
  unfold v10 v9
  simp only [hostOps0_1]
  after_reads_at
  all_goals rfl

/-- What its stretch leaves in `v39`, at an entry, from the buffers the stretch reads. -/
theorem s_v39  : v39 (after hostOps0_7 V)  = Host.scatter scatter_S16384_S8x1_S8_n_0_0_1 (fun _ b => b) (broadcastInDim S16384 ![] bcast_S_S16384 (constantI S_ 1 0#1)) (broadcastInDim S8x1 ![0] bcast_S8_S8x1_0 (select (cmpi .slt (extractStridedSlice S8 ![0] (arg1 V) slices_S9_S8_0) (broadcastInDim S8 ![] bcast_S_S8 (constantI S_ 32 0#32))) (addi (extractStridedSlice S8 ![0] (arg1 V) slices_S9_S8_0) (broadcastInDim S8 ![] bcast_S_S8 (constantI S_ 32 16384#32))) (extractStridedSlice S8 ![0] (arg1 V) slices_S9_S8_0))) (broadcastInDim S8 ![] bcast_S_S8 (constantI S_ 1 1#1)) := by
  unfold v39 arg1
  simp only [hostOps0_7]
  after_reads_at
  all_goals rfl

/-- What its stretch leaves in `v44`, at an entry, from the buffers the stretch reads. -/
theorem s_v44  : v44 (after hostOps0_12 V)  = Host.reduceWindow IntOp.addi ![16384] ![1] ![16383] ![0] (extui 32 (v43 V) natLt_1_32) (broadcastInDim S_ ![] bcast_S_S_ (constantI S_ 32 0#32)) reduceWindows_S16384_S16384_w16384s1p16383_0 h_S_ := by
  unfold v44 v43
  simp only [hostOps0_12]
  after_reads_at
  all_goals rfl

/-- What its stretch leaves in `v53`, at an entry, from the buffers the stretch reads. -/
theorem s_v53  : v53 (after hostOps0_13 V)  = Host.scatter scatter_S16384_S16384x1_S16384_n_0_0_1 IntOp.addi (broadcastInDim S16384 ![] bcast_S_S16384 (constantI S_ 32 0#32)) (broadcastInDim S16384x1 ![0] bcast_S16384_S16384x1_0 (wrapped (v44 V))) (broadcastInDim S16384 ![] bcast_S_S16384 (constantI S_ 32 1#32)) := by
  unfold v53 v44 wrapped
  simp only [hostOps0_13]
  after_reads_at
  all_goals rfl

/-- What its stretch leaves in `v54`, at an entry, from the buffers the stretch reads. -/
theorem s_v54  : v54 (after hostOps0_14 V)  = Host.reduceWindow IntOp.addi ![16384] ![1] ![16383] ![0] (v53 V) (broadcastInDim S_ ![] bcast_S_S_ (constantI S_ 32 0#32)) reduceWindows_S16384_S16384_w16384s1p16383_0 h_S_ := by
  unfold v54 v53
  simp only [hostOps0_14]
  after_reads_at
  all_goals rfl

/-- What its stretch leaves in `v55`, at an entry, from the buffers the stretch reads. -/
theorem s_v55  : v55 (after hostOps0_16 V)  = Routing.pyDiv bcast_S_S16384 (v54 V) (c_21 V) := by
  unfold v55 v54 c_21 Routing.pyDiv
  simp only [hostOps0_16]
  after_reads_at
  all_goals rfl

/-- What its stretch leaves in `v56`, at an entry, from the buffers the stretch reads. -/
theorem s_v56  : v56 (after hostOps0_18 V)  = Routing.pyRem bcast_S_S16384 (v55 V) (c_22 V) := by
  unfold v56 v55 c_22 Routing.pyRem Routing.divGuard
  simp only [hostOps0_18]
  after_reads_at
  all_goals rfl

/-- What its stretch leaves in `v62`, at an entry, from the buffers the stretch reads. -/
theorem s_v62  : v62 (after hostOps0_19 V)  = cmpi .sge (iotaInDim S16384 32 0) (broadcastInDim S16384 ![0] bcast_S1_S16384_0 (broadcastInDim S1 ![] bcast_S_S1 (Host.reduce IntOp.addi (extui 32 (v43 V) natLt_1_32) (constantI S_ 32 0#32) reducesTo_S16384_S_d0 h_S_))) := by
  unfold v62 v43
  simp only [hostOps0_19]
  after_reads_at
  all_goals rfl

/-- What its stretch leaves in `v65`, at an entry, from the buffers the stretch reads. -/
theorem s_v65  : v65 (after hostOps0_21 V)  = select (broadcastInDim S16384x512 ![0] bcast_S16384_S16384x512_0 (inside (v64 V))) (Host.gather gather_S16384x512_S16384x1_S16384x512_1_0_n_n_0_1_1512 (arg0 V) (broadcastInDim S16384x1 ![0] bcast_S16384_S16384x1_0 (wrapped (v64 V)))) (broadcastInDim S16384x512 ![] bcast_S_S16384x512 (constant (F := Ideal) S_ .f32 0x7FC00000#32)) := by
  unfold v65 v64 arg0 wrapped inside wrapped
  simp only [hostOps0_21]
  after_reads_at
  all_goals rfl

/-- What its stretch leaves in `v67`, at an entry, from the buffers the stretch reads. -/
theorem s_v67  : v67 (after hostOps0_23 V)  = select (inside (v64 V)) (Host.gather gather_S16384_S16384x1_S16384_n_0_n_n_0_1_1 (v41 V) (broadcastInDim S16384x1 ![0] bcast_S16384_S16384x1_0 (wrapped (v64 V)))) (broadcastInDim S16384 ![] bcast_S_S16384 (constant (F := Ideal) S_ .f32 0x7FC00000#32)) := by
  unfold v67 v64 v41 wrapped inside wrapped
  simp only [hostOps0_23]
  after_reads_at
  all_goals rfl

/-- What its stretch leaves in `v68`, at an entry, from the buffers the stretch reads. -/
theorem s_v68  : v68 (after hostOps0_24 V)  = select (inside (v64 V)) (Host.gather gather_S16384_S16384x1_S16384_n_0_n_n_0_1_1 (v10 V) (broadcastInDim S16384x1 ![0] bcast_S16384_S16384x1_0 (wrapped (v64 V)))) (broadcastInDim S16384 ![] bcast_S_S16384 (constantI S_ 32 2147483648#32)) := by
  unfold v68 v64 v10 wrapped inside wrapped
  simp only [hostOps0_24]
  after_reads_at
  all_goals rfl

/-- What its stretch leaves in `v84`, at an entry, from the buffers the stretch reads. -/
theorem s_v84  : v84 (after hostOps0_29 V)  = Host.reduceWindow IntOp.addi ![16384] ![1] ![16383] ![0] (v83 V) (broadcastInDim S_ ![] bcast_S_S_ (constantI S_ 32 0#32)) reduceWindows_S16384_S16384_w16384s1p16383_0 h_S_ := by
  unfold v84 v83
  simp only [hostOps0_29]
  after_reads_at
  all_goals rfl

/-- What its stretch leaves in `v88`, at an entry, from the buffers the stretch reads. -/
theorem s_v88  : v88 (after hostOps0_32 V)  = select (broadcastInDim S16384x512 ![0] bcast_S16384_S16384x512_0 (inside (v87 V))) (Host.gather gather_S16384x512_S16384x1_S16384x512_1_0_n_n_0_1_1512 (v82_4 V) (broadcastInDim S16384x1 ![0] bcast_S16384_S16384x1_0 (wrapped (v87 V)))) (broadcastInDim S16384x512 ![] bcast_S_S16384x512 (constant (F := Ideal) S_ .f32 0x7FC00000#32)) := by
  unfold v88 v87 v82_4 wrapped inside wrapped
  simp only [hostOps0_32]
  after_reads_at
  all_goals rfl
end Cert.Proof.RefVals
end
-- ==== Proof.RefAt.lean ====
module

public import proofs.«01_k».proof.Proof.RefVals

/-! The same at the buffers the loop is entered with, and at the last ones. -/

@[expose] public section

set_option maxRecDepth 16384

noncomputable section

namespace Cert.Proof.RefAt
open Cert.ReferenceIdeal Cert.ReferenceIdeal.Gen Cert.ReferenceIdeal.Value
open Idealize.ShloMosaic Idealize.ShloMosaic.TcCoe Idealize.ShloMosaic.StableHlo
open Cert.Proof.RefRun Cert.Proof.RefVals

variable (m : (ℓ : Loc nD τ sig) → Buf (Elt Ideal) ℓ) (c : Dev nD)

/-- `v13` at an entry, from the buffers it is computed from. -/
theorem e_v13 (t : Fin 16383) (e : Fin 512) : v13 (A28 m c) (ix2 t e) = ∑ k, arg0 (A28 m c) (ix2 (⟨t.val, by omega⟩ : Fin 16384) k) * arg2 (A28 m c) (ix2 k e) := by
  rw [show v13 (A28 m c) = v13 (after hostOps0_2 (A2 m c)) from toE3 (by decide),
    show arg0 (A28 m c) = arg0 (A2 m c) from toE2 (by decide),
    show arg2 (A28 m c) = arg2 (A2 m c) from toE2 (by decide)]
  exact s_v13 _ t e

/-- `v14` at an entry, from the buffers it is computed from. -/
theorem e_v14 (t : Fin 16383) (e : Fin 512) : v14 (A28 m c) (ix2 t e) = ∑ k, arg0 (A28 m c) (ix2 (⟨1 + t.val, by omega⟩ : Fin 16384) k) * arg3 (A28 m c) (ix2 k e) := by
  rw [show v14 (A28 m c) = v14 (after hostOps0_2 (A2 m c)) from toE3 (by decide),
    show arg0 (A28 m c) = arg0 (A2 m c) from toE2 (by decide),
    show arg3 (A28 m c) = arg3 (A2 m c) from toE2 (by decide)]
  exact s_v14 _ t e

/-- `v16` at an entry, from the buffers it is computed from. -/
theorem e_v16 (t : Fin 16383) : v16 (A28 m c) (ix1 t) = ∑ e, (∑ k, arg0 (A28 m c) (ix2 (⟨t.val, by omega⟩ : Fin 16384) k) * arg2 (A28 m c) (ix2 k e)) * ∑ k, arg0 (A28 m c) (ix2 (⟨1 + t.val, by omega⟩ : Fin 16384) k) * arg3 (A28 m c) (ix2 k e) := by
  rw [show v16 (A28 m c) = v16 (after hostOps0_2 (A2 m c)) from toE3 (by decide),
    show arg0 (A28 m c) = arg0 (A2 m c) from toE2 (by decide),
    show arg2 (A28 m c) = arg2 (A2 m c) from toE2 (by decide),
    show arg3 (A28 m c) = arg3 (A2 m c) from toE2 (by decide)]
  exact s_v16 _ t

/-- `v17` at an entry, from the buffers it is computed from. -/
theorem e_v17 (t : Fin 16383) : v17 (A28 m c) (ix1 t) = Ideal.sqrt (∑ e, v13 (A28 m c) (ix2 t e) * v13 (A28 m c) (ix2 t e)) := by
  rw [show v17 (A28 m c) = v17 (after hostOps0_3 (A3 m c)) from toE4 (by decide),
    show v13 (A28 m c) = v13 (A3 m c) from toE3 (by decide)]
  exact s_v17 _ t

/-- `v18` at an entry, from the buffers it is computed from. -/
theorem e_v18 (t : Fin 16383) : v18 (A28 m c) (ix1 t) = Ideal.sqrt (∑ e, v14 (A28 m c) (ix2 t e) * v14 (A28 m c) (ix2 t e)) := by
  rw [show v18 (A28 m c) = v18 (after hostOps0_4 (A4 m c)) from toE5 (by decide),
    show v14 (A28 m c) = v14 (A4 m c) from toE4 (by decide)]
  exact s_v18 _ t

/-- `v26` at an entry, from the buffers it is computed from. -/
theorem e_v26 (t : Fin 16383) : v26 (A28 m c) (ix1 t) = Ideal.div (1 - Ideal.div (v16 (A28 m c) (ix1 t)) (v17 (A28 m c) (ix1 t) * v18 (A28 m c) (ix1 t) + Ideal.ofBits .f32 0x358637BD#32)) (Ideal.ofBits .f32 0x40000000#32) := by
  rw [show v26 (A28 m c) = v26 (after hostOps0_5 (A5 m c)) from toE6 (by decide),
    show v16 (A28 m c) = v16 (A5 m c) from toE5 (by decide),
    show v17 (A28 m c) = v17 (A5 m c) from toE5 (by decide),
    show v18 (A28 m c) = v18 (A5 m c) from toE5 (by decide)]
  exact s_v26 _ t

/-- `cst_6` at an entry, from the buffers it is computed from. -/
theorem e_cst_6  : cst_6 (A28 m c) ix0 = 0 := by
  rw [show cst_6 (A28 m c) = cst_6 (after hostOps0_5 (A5 m c)) from toE6 (by decide)]
  exact s_cst_6 _

/-- `cst_7` at an entry, from the buffers it is computed from. -/
theorem e_cst_7  : cst_7 (A28 m c) ix0 = 1 := by
  rw [show cst_7 (A28 m c) = cst_7 (after hostOps0_5 (A5 m c)) from toE6 (by decide)]
  exact s_cst_7 _

/-- `v27` at an entry, from the buffers it is computed from. -/
theorem e_v27 (t : Fin 16383) : v27 (A28 m c) (ix1 t) = min ((cst_7 (A28 m c)) ix0) (max ((cst_6 (A28 m c)) ix0) (v26 (A28 m c) (ix1 t))) := by
  rw [show v27 (A28 m c) = v27 (after hostOps0_6 (A6 m c)) from toE7 (by decide),
    show cst_7 (A28 m c) = cst_7 (A6 m c) from toE6 (by decide),
    show cst_6 (A28 m c) = cst_6 (A6 m c) from toE6 (by decide),
    show v26 (A28 m c) = v26 (A6 m c) from toE6 (by decide)]
  exact s_v27 _ t

/-- `v29` at an entry, from the buffers it is computed from. -/
theorem e_v29 (t : Fin 16384) : v29 (A28 m c) (ix1 t) = if h : t.val < 1 then 1 else v27 (A28 m c) (ix1 (⟨t.val - 1, by omega⟩ : Fin 16383)) := by
  rw [show v29 (A28 m c) = v29 (after hostOps0_7 (A7 m c)) from toE8 (by decide),
    show v27 (A28 m c) = v27 (A7 m c) from toE7 (by decide)]
  exact s_v29 _ t

/-- `cst_13` at an entry, from the buffers it is computed from. -/
theorem e_cst_13  : cst_13 (A28 m c) ix0 = 1 := by
  rw [show cst_13 (A28 m c) = cst_13 (after hostOps0_7 (A7 m c)) from toE8 (by decide)]
  exact s_cst_13 _

/-- `v40` at an entry, from the buffers it is computed from. -/
theorem e_v40 (t : Fin 16384) : v40 (A28 m c) (ix1 t) = Scalar.select (v39 (A28 m c) (ix1 t)) ((cst_13 (A28 m c)) ix0) (v29 (A28 m c) (ix1 t)) := by
  rw [show v40 (A28 m c) = v40 (after hostOps0_8 (A8 m c)) from toE9 (by decide),
    show v39 (A28 m c) = v39 (A8 m c) from toE8 (by decide),
    show cst_13 (A28 m c) = cst_13 (A8 m c) from toE8 (by decide),
    show v29 (A28 m c) = v29 (A8 m c) from toE8 (by decide)]
  exact s_v40 _ t

/-- `cst_14` at an entry, from the buffers it is computed from. -/
theorem e_cst_14  : cst_14 (A28 m c) ix0 = Ideal.ofBits .f32 0x38D1B717#32 := by
  rw [show cst_14 (A28 m c) = cst_14 (after hostOps0_9 (A9 m c)) from toE10 (by decide)]
  exact s_cst_14 _

/-- `cst_15` at an entry, from the buffers it is computed from. -/
theorem e_cst_15  : cst_15 (A28 m c) ix0 = Ideal.ofBits .f32 0x3F7FF972#32 := by
  rw [show cst_15 (A28 m c) = cst_15 (after hostOps0_9 (A9 m c)) from toE10 (by decide)]
  exact s_cst_15 _

/-- `v41` at an entry, from the buffers it is computed from. -/
theorem e_v41 (t : Fin 16384) : v41 (A28 m c) (ix1 t) = min ((cst_15 (A28 m c)) ix0) (max ((cst_14 (A28 m c)) ix0) (v40 (A28 m c) (ix1 t))) := by
  rw [show v41 (A28 m c) = v41 (after hostOps0_10 (A10 m c)) from toE11 (by decide),
    show cst_15 (A28 m c) = cst_15 (A10 m c) from toE10 (by decide),
    show cst_14 (A28 m c) = cst_14 (A10 m c) from toE10 (by decide),
    show v40 (A28 m c) = v40 (A10 m c) from toE10 (by decide)]
  exact s_v41 _ t

/-- `v43` at an entry, from the buffers it is computed from. -/
theorem e_v43 (t : Fin 16384) : v43 (A28 m c) (ix1 t) = BitVec.ofBool (decide (Ideal.ofBits .f32 0x3F000000#32 ≤ v41 (A28 m c) (ix1 t))) := by
  rw [show v43 (A28 m c) = v43 (after hostOps0_11 (A11 m c)) from toE12 (by decide),
    show v41 (A28 m c) = v41 (A11 m c) from toE11 (by decide)]
  exact s_v43 _ t

/-- `c_21` at an entry, from the buffers it is computed from. -/
theorem e_c_21  : c_21 (A28 m c) ix0 = 1#32 := by
  rw [show c_21 (A28 m c) = c_21 (after hostOps0_15 (A15 m c)) from toE16 (by decide)]
  exact s_c_21 _

/-- `c_22` at an entry, from the buffers it is computed from. -/
theorem e_c_22  : c_22 (A28 m c) ix0 = 16384#32 := by
  rw [show c_22 (A28 m c) = c_22 (after hostOps0_17 (A17 m c)) from toE18 (by decide)]
  exact s_c_22 _

/-- `v63` at an entry, from the buffers it is computed from. -/
theorem e_v63  : v63 (A28 m c) (ix1 0) = 16383#32 := by
  rw [show v63 (A28 m c) = v63 (after hostOps0_19 (A19 m c)) from toE20 (by decide)]
  exact s_v63 _

/-- `v64` at an entry, from the buffers it is computed from. -/
theorem e_v64 (t : Fin 16384) : v64 (A28 m c) (ix1 t) = Scalar.select (v62 (A28 m c) (ix1 t)) (v63 (A28 m c) (ix1 0)) (v56 (A28 m c) (ix1 t)) := by
  rw [show v64 (A28 m c) = v64 (after hostOps0_20 (A20 m c)) from toE21 (by decide),
    show v62 (A28 m c) = v62 (A20 m c) from toE20 (by decide),
    show v63 (A28 m c) = v63 (A20 m c) from toE20 (by decide),
    show v56 (A28 m c) = v56 (A20 m c) from toE20 (by decide)]
  exact s_v64 _ t

/-- `v66` at an entry, from the buffers it is computed from. -/
theorem e_v66 (t : Fin 16384) (d : Fin 512) : v66 (A28 m c) (ix2 t d) = ∑ k, v65 (A28 m c) (ix2 t k) * arg4 (A28 m c) (ix2 k d) := by
  rw [show v66 (A28 m c) = v66 (after hostOps0_22 (A22 m c)) from toE23 (by decide),
    show v65 (A28 m c) = v65 (A22 m c) from toE22 (by decide),
    show arg4 (A28 m c) = arg4 (A22 m c) from toE22 (by decide)]
  exact s_v66 _ t d

/-- `v73` at an entry, from the buffers it is computed from. -/
theorem e_v73 (t : Fin 16384) : v73 (A28 m c) (ix1 t) = if h : t.val < 1 then 1#1 else IntOp.cmpi .ne (v68 (A28 m c) (ix1 (⟨1 + (t.val - 1), by omega⟩ : Fin 16384))) (v68 (A28 m c) (ix1 (⟨t.val - 1, by omega⟩ : Fin 16384))) := by
  rw [show v73 (A28 m c) = v73 (after hostOps0_25 (A25 m c)) from toE26 (by decide),
    show v68 (A28 m c) = v68 (A25 m c) from toE25 (by decide)]
  exact s_v73 _ t

/-- `v75` at an entry, from the buffers it is computed from. -/
theorem e_v75 (t : Fin 16384) : v75 (A28 m c) (ix1 t) = 1 - v67 (A28 m c) (ix1 t) := by
  rw [show v75 (A28 m c) = v75 (after hostOps0_25 (A25 m c)) from toE26 (by decide),
    show v67 (A28 m c) = v67 (A25 m c) from toE25 (by decide)]
  exact s_v75 _ t

/-- `cst_27` at an entry, from the buffers it is computed from. -/
theorem e_cst_27  : cst_27 (A28 m c) ix0 = 0 := by
  rw [show cst_27 (A28 m c) = cst_27 (after hostOps0_25 (A25 m c)) from toE26 (by decide)]
  exact s_cst_27 _

/-- `v76` at an entry, from the buffers it is computed from. -/
theorem e_v76 (t : Fin 16384) : v76 (A28 m c) (ix1 t) = Scalar.select (v73 (A28 m c) (ix1 t)) ((cst_27 (A28 m c)) ix0) (v75 (A28 m c) (ix1 t)) := by
  rw [show v76 (A28 m c) = v76 (after hostOps0_26 (A26 m c)) from toE27 (by decide),
    show v73 (A28 m c) = v73 (A26 m c) from toE26 (by decide),
    show cst_27 (A28 m c) = cst_27 (A26 m c) from toE26 (by decide),
    show v75 (A28 m c) = v75 (A26 m c) from toE26 (by decide)]
  exact s_v76 _ t

/-- `v79` at an entry, from the buffers it is computed from. -/
theorem e_v79 (t : Fin 16384) (d : Fin 512) : v79 (A28 m c) (ix2 t d) = v67 (A28 m c) (ix1 t) * v66 (A28 m c) (ix2 t d) := by
  rw [show v79 (A28 m c) = v79 (after hostOps0_27 (A27 m c)) from toE28 (by decide),
    show v67 (A28 m c) = v67 (A27 m c) from toE27 (by decide),
    show v66 (A28 m c) = v66 (A27 m c) from toE27 (by decide)]
  exact s_v79 _ t d

/-- `v82_0` at an entry, from the buffers it is computed from. -/
theorem e_v82_0 (t : Fin 16384) : v82_0 (A28 m c) (ix1 t) = v76 (A28 m c) (ix1 t) := by
  rw [show v82_0 (A28 m c) = v82_0 (after hostOps0_27 (A27 m c)) from toE28 (by decide),
    show v76 (A28 m c) = v76 (A27 m c) from toE27 (by decide)]
  exact s_v82_0 _ t

/-- `v82_1` at an entry, from the buffers it is computed from. -/
theorem e_v82_1 (t : Fin 16384) (d : Fin 512) : v82_1 (A28 m c) (ix2 t d) = v67 (A28 m c) (ix1 t) * v66 (A28 m c) (ix2 t d) := by
  rw [show v82_1 (A28 m c) = v82_1 (after hostOps0_27 (A27 m c)) from toE28 (by decide),
    show v67 (A28 m c) = v67 (A27 m c) from toE27 (by decide),
    show v66 (A28 m c) = v66 (A27 m c) from toE27 (by decide)]
  exact s_v82_1 _ t d

/-- `v82_3` at an entry, from the buffers it is computed from. -/
theorem e_v82_3 (d : Fin 512) : v82_3 (A28 m c) (ix1 d) = 0 := by
  rw [show v82_3 (A28 m c) = v82_3 (after hostOps0_27 (A27 m c)) from toE28 (by decide)]
  exact s_v82_3 _ d

/-- `v82_4` at an entry, from the buffers it is computed from. -/
theorem e_v82_4 (t : Fin 16384) (d : Fin 512) : v82_4 (A28 m c) (ix2 t d) = 0 := by
  rw [show v82_4 (A28 m c) = v82_4 (after hostOps0_27 (A27 m c)) from toE28 (by decide)]
  exact s_v82_4 _ t d

/-- `v83` at an entry, from the buffers it is computed from. -/
theorem e_v83 (t : Fin 16384) : v83 (B8 m c) (ix1 t) = BitVec.setWidth 32 (v43 (B8 m c) (ix1 t)) := by
  rw [show v83 (B8 m c) = v83 (after hostOps0_28 (B0 m c)) from toB1 (by decide),
    show v43 (B8 m c) = v43 (B0 m c) from toB0 (by decide)]
  exact s_v83 _ t

/-- `v86` at an entry, from the buffers it is computed from. -/
theorem e_v86 (t : Fin 16384) : v86 (B8 m c) (ix1 t) = v84 (B8 m c) (ix1 t) - 1#32 := by
  rw [show v86 (B8 m c) = v86 (after hostOps0_30 (B2 m c)) from toB3 (by decide),
    show v84 (B8 m c) = v84 (B2 m c) from toB2 (by decide)]
  exact s_v86 _ t

/-- `c_32` at an entry, from the buffers it is computed from. -/
theorem e_c_32  : c_32 (B8 m c) ix0 = 0#32 := by
  rw [show c_32 (B8 m c) = c_32 (after hostOps0_30 (B2 m c)) from toB3 (by decide)]
  exact s_c_32 _

/-- `c_33` at an entry, from the buffers it is computed from. -/
theorem e_c_33  : c_33 (B8 m c) ix0 = 16383#32 := by
  rw [show c_33 (B8 m c) = c_33 (after hostOps0_30 (B2 m c)) from toB3 (by decide)]
  exact s_c_33 _

/-- `v87` at an entry, from the buffers it is computed from. -/
theorem e_v87 (t : Fin 16384) : v87 (B8 m c) (ix1 t) = IntOp.minsi ((c_33 (B8 m c)) ix0) (IntOp.maxsi ((c_32 (B8 m c)) ix0) (v86 (B8 m c) (ix1 t))) := by
  rw [show v87 (B8 m c) = v87 (after hostOps0_31 (B3 m c)) from toB4 (by decide),
    show c_33 (B8 m c) = c_33 (B3 m c) from toB3 (by decide),
    show c_32 (B8 m c) = c_32 (B3 m c) from toB3 (by decide),
    show v86 (B8 m c) = v86 (B3 m c) from toB3 (by decide)]
  exact s_v87 _ t

/-- `v90` at an entry, from the buffers it is computed from. -/
theorem e_v90 (t : Fin 16384) : v90 (B8 m c) (ix1 t) = 1 - v41 (B8 m c) (ix1 t) := by
  rw [show v90 (B8 m c) = v90 (after hostOps0_33 (B5 m c)) from toB6 (by decide),
    show v41 (B8 m c) = v41 (B5 m c) from toB5 (by decide)]
  exact s_v90 _ t

/-- `v91` at an entry, from the buffers it is computed from. -/
theorem e_v91 (t : Fin 16384) : v91 (B8 m c) (ix1 t) = Scalar.select (v43 (B8 m c) (ix1 t)) (v41 (B8 m c) (ix1 t)) (v90 (B8 m c) (ix1 t)) := by
  rw [show v91 (B8 m c) = v91 (after hostOps0_34 (B6 m c)) from toB7 (by decide),
    show v43 (B8 m c) = v43 (B6 m c) from toB6 (by decide),
    show v41 (B8 m c) = v41 (B6 m c) from toB6 (by decide),
    show v90 (B8 m c) = v90 (B6 m c) from toB6 (by decide)]
  exact s_v91 _ t

/-- `v98` at an entry, from the buffers it is computed from. -/
theorem e_v98 (t : Fin 16384) (d : Fin 512) : v98 (B8 m c) (ix2 t d) = arg0 (B8 m c) (ix2 t d) + v88 (B8 m c) (ix2 t d) * (v91 (B8 m c) (ix1 t) + (1 - v91 (B8 m c) (ix1 t))) := by
  rw [show v98 (B8 m c) = v98 (after hostOps0_35 (B7 m c)) from toB8 (by decide),
    show arg0 (B8 m c) = arg0 (B7 m c) from toB7 (by decide),
    show v88 (B8 m c) = v88 (B7 m c) from toB7 (by decide),
    show v91 (B8 m c) = v91 (B7 m c) from toB7 (by decide)]
  exact s_v98 _ t d

/-- `v9` at an entry, from the buffers it is computed from. -/
theorem e_v9  : v9 (A28 m c)  = Host.scatter scatter_S16384_S7x1_S7_n_0_0_1 (fun _ b => b) (broadcastInDim S16384 ![] bcast_S_S16384 (constantI S_ 32 0#32)) (broadcastInDim S7x1 ![0] bcast_S7_S7x1_0 (select (cmpi .slt (extractStridedSlice S7 ![1] (arg1 (A28 m c)) slices_S9_S7_1) (broadcastInDim S7 ![] bcast_S_S7 (constantI S_ 32 0#32))) (addi (extractStridedSlice S7 ![1] (arg1 (A28 m c)) slices_S9_S7_1) (broadcastInDim S7 ![] bcast_S_S7 (constantI S_ 32 16384#32))) (extractStridedSlice S7 ![1] (arg1 (A28 m c)) slices_S9_S7_1))) (broadcastInDim S7 ![] bcast_S_S7 (constantI S_ 32 1#32)) := by
  rw [show v9 (A28 m c) = v9 (after hostOps0 (A0 m c)) from toE1 (by decide),
    show arg1 (A28 m c) = arg1 (A0 m c) from toE0 (by decide)]
  exact s_v9 _

/-- `v10` at an entry, from the buffers it is computed from. -/
theorem e_v10  : v10 (A28 m c)  = Host.reduceWindow IntOp.addi ![16384] ![1] ![16383] ![0] (v9 (A28 m c)) (broadcastInDim S_ ![] bcast_S_S_ (constantI S_ 32 0#32)) reduceWindows_S16384_S16384_w16384s1p16383_0 h_S_ := by
  rw [show v10 (A28 m c) = v10 (after hostOps0_1 (A1 m c)) from toE2 (by decide),
    show v9 (A28 m c) = v9 (A1 m c) from toE1 (by decide)]
  exact s_v10 _

/-- `v39` at an entry, from the buffers it is computed from. -/
theorem e_v39  : v39 (A28 m c)  = Host.scatter scatter_S16384_S8x1_S8_n_0_0_1 (fun _ b => b) (broadcastInDim S16384 ![] bcast_S_S16384 (constantI S_ 1 0#1)) (broadcastInDim S8x1 ![0] bcast_S8_S8x1_0 (select (cmpi .slt (extractStridedSlice S8 ![0] (arg1 (A28 m c)) slices_S9_S8_0) (broadcastInDim S8 ![] bcast_S_S8 (constantI S_ 32 0#32))) (addi (extractStridedSlice S8 ![0] (arg1 (A28 m c)) slices_S9_S8_0) (broadcastInDim S8 ![] bcast_S_S8 (constantI S_ 32 16384#32))) (extractStridedSlice S8 ![0] (arg1 (A28 m c)) slices_S9_S8_0))) (broadcastInDim S8 ![] bcast_S_S8 (constantI S_ 1 1#1)) := by
  rw [show v39 (A28 m c) = v39 (after hostOps0_7 (A7 m c)) from toE8 (by decide),
    show arg1 (A28 m c) = arg1 (A7 m c) from toE7 (by decide)]
  exact s_v39 _

/-- `v44` at an entry, from the buffers it is computed from. -/
theorem e_v44  : v44 (A28 m c)  = Host.reduceWindow IntOp.addi ![16384] ![1] ![16383] ![0] (extui 32 (v43 (A28 m c)) natLt_1_32) (broadcastInDim S_ ![] bcast_S_S_ (constantI S_ 32 0#32)) reduceWindows_S16384_S16384_w16384s1p16383_0 h_S_ := by
  rw [show v44 (A28 m c) = v44 (after hostOps0_12 (A12 m c)) from toE13 (by decide),
    show v43 (A28 m c) = v43 (A12 m c) from toE12 (by decide)]
  exact s_v44 _

/-- `v53` at an entry, from the buffers it is computed from. -/
theorem e_v53  : v53 (A28 m c)  = Host.scatter scatter_S16384_S16384x1_S16384_n_0_0_1 IntOp.addi (broadcastInDim S16384 ![] bcast_S_S16384 (constantI S_ 32 0#32)) (broadcastInDim S16384x1 ![0] bcast_S16384_S16384x1_0 (wrapped (v44 (A28 m c)))) (broadcastInDim S16384 ![] bcast_S_S16384 (constantI S_ 32 1#32)) := by
  rw [show v53 (A28 m c) = v53 (after hostOps0_13 (A13 m c)) from toE14 (by decide),
    show v44 (A28 m c) = v44 (A13 m c) from toE13 (by decide)]
  exact s_v53 _

/-- `v54` at an entry, from the buffers it is computed from. -/
theorem e_v54  : v54 (A28 m c)  = Host.reduceWindow IntOp.addi ![16384] ![1] ![16383] ![0] (v53 (A28 m c)) (broadcastInDim S_ ![] bcast_S_S_ (constantI S_ 32 0#32)) reduceWindows_S16384_S16384_w16384s1p16383_0 h_S_ := by
  rw [show v54 (A28 m c) = v54 (after hostOps0_14 (A14 m c)) from toE15 (by decide),
    show v53 (A28 m c) = v53 (A14 m c) from toE14 (by decide)]
  exact s_v54 _

/-- `v55` at an entry, from the buffers it is computed from. -/
theorem e_v55  : v55 (A28 m c)  = Routing.pyDiv bcast_S_S16384 (v54 (A28 m c)) (c_21 (A28 m c)) := by
  rw [show v55 (A28 m c) = v55 (after hostOps0_16 (A16 m c)) from toE17 (by decide),
    show v54 (A28 m c) = v54 (A16 m c) from toE16 (by decide),
    show c_21 (A28 m c) = c_21 (A16 m c) from toE16 (by decide)]
  exact s_v55 _

/-- `v56` at an entry, from the buffers it is computed from. -/
theorem e_v56  : v56 (A28 m c)  = Routing.pyRem bcast_S_S16384 (v55 (A28 m c)) (c_22 (A28 m c)) := by
  rw [show v56 (A28 m c) = v56 (after hostOps0_18 (A18 m c)) from toE19 (by decide),
    show v55 (A28 m c) = v55 (A18 m c) from toE18 (by decide),
    show c_22 (A28 m c) = c_22 (A18 m c) from toE18 (by decide)]
  exact s_v56 _

/-- `v62` at an entry, from the buffers it is computed from. -/
theorem e_v62  : v62 (A28 m c)  = cmpi .sge (iotaInDim S16384 32 0) (broadcastInDim S16384 ![0] bcast_S1_S16384_0 (broadcastInDim S1 ![] bcast_S_S1 (Host.reduce IntOp.addi (extui 32 (v43 (A28 m c)) natLt_1_32) (constantI S_ 32 0#32) reducesTo_S16384_S_d0 h_S_))) := by
  rw [show v62 (A28 m c) = v62 (after hostOps0_19 (A19 m c)) from toE20 (by decide),
    show v43 (A28 m c) = v43 (A19 m c) from toE19 (by decide)]
  exact s_v62 _

/-- `v65` at an entry, from the buffers it is computed from. -/
theorem e_v65  : v65 (A28 m c)  = select (broadcastInDim S16384x512 ![0] bcast_S16384_S16384x512_0 (inside (v64 (A28 m c)))) (Host.gather gather_S16384x512_S16384x1_S16384x512_1_0_n_n_0_1_1512 (arg0 (A28 m c)) (broadcastInDim S16384x1 ![0] bcast_S16384_S16384x1_0 (wrapped (v64 (A28 m c))))) (broadcastInDim S16384x512 ![] bcast_S_S16384x512 (constant (F := Ideal) S_ .f32 0x7FC00000#32)) := by
  rw [show v65 (A28 m c) = v65 (after hostOps0_21 (A21 m c)) from toE22 (by decide),
    show v64 (A28 m c) = v64 (A21 m c) from toE21 (by decide),
    show arg0 (A28 m c) = arg0 (A21 m c) from toE21 (by decide)]
  exact s_v65 _

/-- `v67` at an entry, from the buffers it is computed from. -/
theorem e_v67  : v67 (A28 m c)  = select (inside (v64 (A28 m c))) (Host.gather gather_S16384_S16384x1_S16384_n_0_n_n_0_1_1 (v41 (A28 m c)) (broadcastInDim S16384x1 ![0] bcast_S16384_S16384x1_0 (wrapped (v64 (A28 m c))))) (broadcastInDim S16384 ![] bcast_S_S16384 (constant (F := Ideal) S_ .f32 0x7FC00000#32)) := by
  rw [show v67 (A28 m c) = v67 (after hostOps0_23 (A23 m c)) from toE24 (by decide),
    show v64 (A28 m c) = v64 (A23 m c) from toE23 (by decide),
    show v41 (A28 m c) = v41 (A23 m c) from toE23 (by decide)]
  exact s_v67 _

/-- `v68` at an entry, from the buffers it is computed from. -/
theorem e_v68  : v68 (A28 m c)  = select (inside (v64 (A28 m c))) (Host.gather gather_S16384_S16384x1_S16384_n_0_n_n_0_1_1 (v10 (A28 m c)) (broadcastInDim S16384x1 ![0] bcast_S16384_S16384x1_0 (wrapped (v64 (A28 m c))))) (broadcastInDim S16384 ![] bcast_S_S16384 (constantI S_ 32 2147483648#32)) := by
  rw [show v68 (A28 m c) = v68 (after hostOps0_24 (A24 m c)) from toE25 (by decide),
    show v64 (A28 m c) = v64 (A24 m c) from toE24 (by decide),
    show v10 (A28 m c) = v10 (A24 m c) from toE24 (by decide)]
  exact s_v68 _

/-- `v84` at an entry, from the buffers it is computed from. -/
theorem e_v84  : v84 (B8 m c)  = Host.reduceWindow IntOp.addi ![16384] ![1] ![16383] ![0] (v83 (B8 m c)) (broadcastInDim S_ ![] bcast_S_S_ (constantI S_ 32 0#32)) reduceWindows_S16384_S16384_w16384s1p16383_0 h_S_ := by
  rw [show v84 (B8 m c) = v84 (after hostOps0_29 (B1 m c)) from toB2 (by decide),
    show v83 (B8 m c) = v83 (B1 m c) from toB1 (by decide)]
  exact s_v84 _

/-- `v88` at an entry, from the buffers it is computed from. -/
theorem e_v88  : v88 (B8 m c)  = select (broadcastInDim S16384x512 ![0] bcast_S16384_S16384x512_0 (inside (v87 (B8 m c)))) (Host.gather gather_S16384x512_S16384x1_S16384x512_1_0_n_n_0_1_1512 (v82_4 (B8 m c)) (broadcastInDim S16384x1 ![0] bcast_S16384_S16384x1_0 (wrapped (v87 (B8 m c))))) (broadcastInDim S16384x512 ![] bcast_S_S16384x512 (constant (F := Ideal) S_ .f32 0x7FC00000#32)) := by
  rw [show v88 (B8 m c) = v88 (after hostOps0_32 (B4 m c)) from toB5 (by decide),
    show v87 (B8 m c) = v87 (B4 m c) from toB4 (by decide),
    show v82_4 (B8 m c) = v82_4 (B4 m c) from toB4 (by decide)]
  exact s_v88 _

/-- `v41` reads at the end what it read when last written. -/
theorem b_v41 : v41 (B8 m c) = v41 (A28 m c) := (toB0 (by decide)).trans (B0_keep (by decide))

/-- `v43` reads at the end what it read when last written. -/
theorem b_v43 : v43 (B8 m c) = v43 (A28 m c) := (toB0 (by decide)).trans (B0_keep (by decide))

/-- `arg0` reads at the loop's entry what it read at the launch. -/
theorem a_arg0 : arg0 (A28 m c) = m ((c.tc : Thread nD τ).loc main_arg0) := toE0 (by decide)

/-- `arg1` reads at the loop's entry what it read at the launch. -/
theorem a_arg1 : arg1 (A28 m c) = m ((c.tc : Thread nD τ).loc main_arg1) := toE0 (by decide)

/-- `arg2` reads at the loop's entry what it read at the launch. -/
theorem a_arg2 : arg2 (A28 m c) = m ((c.tc : Thread nD τ).loc main_arg2) := toE0 (by decide)

/-- `arg3` reads at the loop's entry what it read at the launch. -/
theorem a_arg3 : arg3 (A28 m c) = m ((c.tc : Thread nD τ).loc main_arg3) := toE0 (by decide)

/-- `arg4` reads at the loop's entry what it read at the launch. -/
theorem a_arg4 : arg4 (A28 m c) = m ((c.tc : Thread nD τ).loc main_arg4) := toE0 (by decide)

/-- `arg0` reads at the end what it read when last written. -/
theorem b_arg0 : arg0 (B8 m c) = m ((c.tc : Thread nD τ).loc main_arg0) := arg_keep (by decide) (by decide) (by decide)

/-- `v82_4` reads at the end what it read when last written. -/
theorem b_v82_4 : v82_4 (B8 m c) = v82_4 (B0 m c) := toB0 (by decide)
end Cert.Proof.RefAt
end
-- ==== Proof.RefOps.lean ====
module

public import proofs.«01_k».proof.Proof.RefAt
public import proofs.«01_k».proof.Proof.Args
public import Idealize.ShloMosaic.Lib.Pointwise.IndexBridge
public import Idealize.ShloMosaic.Lib.Routing.Ops
public import Idealize.ShloMosaic.Lib.Routing.OpsSet
public import Idealize.ShloMosaic.Lib.Routing.OpsSearch
public import Idealize.ShloMosaic.Lib.Routing.OpsPair
public import Idealize.ShloMosaic.Lib.Routing.Count
public import Idealize.ShloMosaic.Lib.Routing.Words

/-! The reference's integer operations at an index: scatters of marks, running counts, and takes at indices inside the array. -/

@[expose] public section

set_option maxRecDepth 16384

noncomputable section

namespace Cert.Proof.RefOps
open Cert.ReferenceIdeal Cert.ReferenceIdeal.Gen Cert.ReferenceIdeal.Value
open Idealize.ShloMosaic Idealize.ShloMosaic.TcCoe Idealize.ShloMosaic.StableHlo
open Cert.Proof.RefVals

/-- Where update `i` of a scatter of single words lands: at its index word, read signed. -/
theorem lands {N U : ℕ} (d : ScatterDims (⟨1, ![N]⟩ : Shape) (⟨2, ![U, 1]⟩ : Shape) (⟨1, ![U]⟩ : Shape)) (hw : d.insertedWindowDims = [0])
    (hs : d.scatterDimsToOperandDims = [0]) (hv : d.indexVectorDim = 1) (idx : (⟨2, ![U, 1]⟩ : Shape).Idx → BitVec 32) (i : Fin U) (x : Fin N) :
    d.resultIdx? (ix1 i) idx = some (ix1 x) ↔ (idx (ix2 i (0 : Fin 1))).toInt = (x.val : ℤ) := by
  have hn : (0 : Fin 1) ∉ d.sKept := by
    intro h
    have h2 := (List.mem_filter.1 h).2
    rw [hw] at h2
    exact (of_decide_eq_true h2) List.mem_cons_self
  have e1 : d.window (ix1 i) 0 = 0 := by
    unfold ScatterDims.window
    exact dif_neg hn
  have hm : (0 : Fin 1) ∈ d.scatterDimsToOperandDims := by rw [hs]; exact List.mem_cons_self
  have e2 : d.start (ix1 i) idx 0 = (idx (ix2 i (0 : Fin 1))).toInt := by
    refine (dif_pos hm).trans (congrArg (fun q => (idx q).toInt) ?_)
    refine (eq_ix2 _).trans ?_
    have c0 : d.siIdx (ix1 i) ⟨d.scatterDimsToOperandDims.idxOf 0, List.idxOf_lt_length_iff.2 hm⟩ 0 = i := by
      apply Fin.ext
      refine (congrArg Fin.val (dif_neg (show ¬ (0 : ℕ) = d.indexVectorDim by omega))).trans ?_
      have : ∀ q : Fin 1, ((ix1 i : (⟨1, ![U]⟩ : Shape).Idx) q).val = i.val := fun q => by rw [Subsingleton.elim q 0]; rfl
      exact this _
    exact congrArg₂ ix2 c0 (Subsingleton.elim _ _)
  rw [ix1_eq_valueIdx x, Routing.resultIdx?_ix1, e1, e2]
  simp

/-- A word that is no more than a natural below the sign bit, read signed. -/
theorem toInt_iff (w : BitVec 32) (hw : w.toNat < 2147483648) (x : ℕ) (hx : x < 16384) : w.toInt = (x : ℤ) ↔ w = BitVec.ofNat 32 x := by
  rw [BitVec.toInt_eq_toNat_of_lt (by omega), ← BitVec.toNat_inj, BitVec.toNat_ofNat, Nat.mod_eq_of_lt (by omega)]
  norm_cast

/-- A scatter that writes one mark: the entries its index words name hold it, the others keep what they held. -/
theorem marks {α : Type} {U : ℕ} (d : ScatterDims (⟨1, ![16384]⟩ : Shape) (⟨2, ![U, 1]⟩ : Shape) (⟨1, ![U]⟩ : Shape)) (hw : d.insertedWindowDims = [0])
    (hs : d.scatterDimsToOperandDims = [0]) (hv : d.indexVectorDim = 1) (x0 : S16384.Idx → α) (idx : (⟨2, ![U, 1]⟩ : Shape).Idx → BitVec 32) (upd : (⟨1, ![U]⟩ : Shape).Idx → α)
    (a b : α) (h0 : ∀ i, x0 i = a) (hu : ∀ i, upd i = b) (w : Fin U → BitVec 32) (hidx : ∀ s, idx (ix2 s (0 : Fin 1)) = w s) (hlt : ∀ s, (w s).toNat < 2147483648)
    (t : Fin 16384) [Decidable (∃ s, w s = BitVec.ofNat 32 t.val)] :
    Host.scatter d (fun _ b => b) x0 idx upd (ix1 t) = if ∃ s, w s = BitVec.ofNat 32 t.val then b else a := by
  have hl : ∀ s : Fin U, d.resultIdx? (ix1 s) idx = some (ix1 t) ↔ w s = BitVec.ofNat 32 t.val := fun s =>
    (lands d hw hs hv idx s t).trans (by rw [hidx s]; exact toInt_iff _ (hlt s) _ t.isLt)
  by_cases h : ∃ s, w s = BitVec.ofNat 32 t.val
  · rw [if_pos h]
    obtain ⟨s, hs⟩ := h
    exact Routing.scatter_set_hit _ _ _ _ _ b (fun _ _ => hu _) (ix1 s) ((hl s).2 hs)
  · rw [if_neg h]
    refine (Routing.scatter_set_miss _ _ _ _ _ fun k hk => h ⟨k 0, ?_⟩).trans (h0 _)
    rw [eq_ix1 k] at hk
    exact (hl _).1 hk

/-- A running count. -/
theorem cumsum (x : S16384.Idx → BitVec 32) (f : ℕ → ℕ) (hx : ∀ i : Fin 16384, x (ix1 i) = BitVec.ofNat 32 (f i.val)) (j : Fin 16384) :
    Host.reduceWindow IntOp.addi ![16384] ![1] ![16383] ![0] x (broadcastInDim S_ ![] bcast_S_S_ (constantI S_ 32 0#32)) reduceWindows_S16384_S16384_w16384s1p16383_0 h_S_ (ix1 j)
      = BitVec.ofNat 32 ((List.range (j.val + 1)).map f).sum := by
  rw [ix1_eq_valueIdx]
  refine Routing.cumsum1 rfl x f (fun i => ?_) _ ?_ _ _ j
  · rw [← ix1_eq_valueIdx]; exact hx i
  · rfl

/-- A total. -/
theorem total (x : S16384.Idx → BitVec 32) (f : ℕ → ℕ) (hx : ∀ i : Fin 16384, x (ix1 i) = BitVec.ofNat 32 (f i.val)) :
    Host.reduce IntOp.addi x (constantI S_ 32 0#32) reducesTo_S16384_S_d0 h_S_ ix0 = BitVec.ofNat 32 ((List.range 16384).map f).sum := by
  refine Eq.trans (congrArg _ (ValueIdx.eq_ix0 _)) (Routing.reduce_sum x f (fun i => ?_) _ _)
  rw [← ix1_eq_valueIdx]; exact hx i

/-- An index that is not negative is not wrapped. -/
theorem wrapped_at (w : S16384.Idx → BitVec 32) (t : Fin 16384) (k : ℕ) (hk : k ≤ 16384) (h : w (ix1 t) = BitVec.ofNat 32 k) :
    wrapped w (ix1 t) = BitVec.ofNat 32 k := by
  have e : wrapped w (ix1 t) = Scalar.select (IntOp.cmpi .slt (w (ix1 t)) 0#32) (IntOp.addi (w (ix1 t)) 16384#32) (w (ix1 t)) := by
    unfold wrapped; pointwise
  rw [e, h]
  exact Routing.wrap_of_lt _ _ (by rw [BitVec.toNat_ofNat, Nat.mod_eq_of_lt (by omega)]; omega)

/-- A list of indices as a column. -/
theorem col_at (w : S16384.Idx → BitVec 32) (t : Fin 16384) :
    broadcastInDim S16384x1 ![0] bcast_S16384_S16384x1_0 w (ix2 t (0 : Fin 1)) = w (ix1 t) := by pointwise

/-- An index within the range passes the test of being within it. -/
theorem inside_at (w : S16384.Idx → BitVec 32) (t : Fin 16384) (k : ℕ) (hk : k < 16384) (h : w (ix1 t) = BitVec.ofNat 32 k) :
    inside w (ix1 t) = 1#1 := by
  have hw := wrapped_at w t k hk.le h
  have e : inside w (ix1 t) = Finset.fold IntOp.andi 1#1 (fun _ : Fin 1 => IntOp.andi (IntOp.cmpi .sge (wrapped w (ix1 t)) 0#32) (IntOp.cmpi .sle (wrapped w (ix1 t)) 16383#32)) Finset.univ := by
    unfold inside; pointwise
  rw [e, Finset.univ_unique, Finset.fold_singleton, hw,
    (WordCmp.cmpi_sge_ofNat_eq_one_iff (w := 32) (a := k) (b := 0) (by omega) (by omega)).2 (by omega),
    (WordCmp.cmpi_sle_ofNat_eq_one_iff (w := 32) (a := k) (b := 16383) (by omega) (by omega)).2 (by omega)]
  rfl

/-- A selection with its bit set takes the first. -/
theorem select_one {s : Shape} {α : Type} (c : s.Idx → BitVec 1) (a b : s.Idx → α) (i : s.Idx) (h : c i = 1#1) : select c a b i = a i := by
  show Scalar.select (c i) (a i) (b i) = a i
  rw [h]; rfl

/-- A take of rows at an index inside. -/
theorem take_row (x : S16384x512.Idx → EReal) (f : S16384x512.Idx → EReal) (w : S16384.Idx → BitVec 32) (t : Fin 16384) (d : Fin 512) (k : ℕ) (hk : k < 16384) (h : w (ix1 t) = BitVec.ofNat 32 k) :
    select (broadcastInDim S16384x512 ![0] bcast_S16384_S16384x512_0 (inside w)) (Host.gather gather_S16384x512_S16384x1_S16384x512_1_0_n_n_0_1_1512 x (broadcastInDim S16384x1 ![0] bcast_S16384_S16384x1_0 (wrapped w))) f (ix2 t d)
      = x (ix2 (⟨k, hk⟩ : Fin 16384) d) := by
  have hb : broadcastInDim S16384x512 ![0] bcast_S16384_S16384x512_0 (inside w) (ix2 t d) = inside w (ix1 t) := by pointwise
  refine (select_one _ _ _ _ (hb.trans (inside_at w t k hk h))).trans ?_
  rw [ix2_eq_valueIdx t d, ix2_eq_valueIdx]
  refine Routing.gather_row _ rfl rfl rfl rfl rfl x _ t d ⟨k, hk⟩ ?_ (by norm_num)
  rw [← ix2_eq_valueIdx, col_at]; exact wrapped_at w t k hk.le h

/-- A take of entries at an index inside. -/
theorem take_entry {α : Type} (x : S16384.Idx → α) (f : S16384.Idx → α) (w : S16384.Idx → BitVec 32) (t : Fin 16384) (k : ℕ) (hk : k < 16384) (h : w (ix1 t) = BitVec.ofNat 32 k) :
    select (inside w) (Host.gather gather_S16384_S16384x1_S16384_n_0_n_n_0_1_1 x (broadcastInDim S16384x1 ![0] bcast_S16384_S16384x1_0 (wrapped w))) f (ix1 t)
      = x (ix1 (⟨k, hk⟩ : Fin 16384)) := by
  refine (select_one _ _ _ _ (inside_at w t k hk h)).trans ?_
  rw [ix1_eq_valueIdx t, ix1_eq_valueIdx]
  refine Routing.take_ap _ rfl rfl rfl rfl x _ t hk (by omega) ?_
  rw [← ix2_eq_valueIdx, col_at]; exact wrapped_at w t k hk.le h

/-- How many indices are each entry. -/
theorem hist (w : S16384.Idx → BitVec 32) (g : ℕ → ℕ) (hg : ∀ i : Fin 16384, w (ix1 i) = BitVec.ofNat 32 (g i.val)) (hg' : ∀ i : Fin 16384, g i.val ≤ 16384) (x : Fin 16384) :
    Host.scatter scatter_S16384_S16384x1_S16384_n_0_0_1 IntOp.addi (broadcastInDim S16384 ![] bcast_S_S16384 (constantI S_ 32 0#32))
        (broadcastInDim S16384x1 ![0] bcast_S16384_S16384x1_0 (wrapped w)) (broadcastInDim S16384 ![] bcast_S_S16384 (constantI S_ 32 1#32)) (ix1 x)
      = BitVec.ofNat 32 (Nat.count (fun i => g i = x.val) 16384) := by
  rw [ix1_eq_valueIdx]
  refine Routing.scatter_hist _ rfl rfl rfl _ (fun i => ?_) _ _ (fun i => ?_) g (fun i => ?_) (fun i => by have := hg' i; omega) x
  · rfl
  · rfl
  · rw [← ix2_eq_valueIdx, col_at]; exact wrapped_at w i _ (hg' i) (hg i)

end Cert.Proof.RefOps
end
-- ==== Proof.RefMath.lean ====
module

public import proofs.«01_k».proof.Proof.Spec
public import Idealize.ShloMosaic.Lib.Routing.Count
public import Mathlib.Order.Interval.Finset.Nat

/-! The recurrence over the selected tokens alone gives the state of the recurrence over all tokens: the positions of the selected
tokens, when two consecutive ones lie in different segments, and the two recurrences compared. -/

@[expose] public section

noncomputable section

namespace Cert.Proof.RefMath
open Cert.Proof.Spec Idealize.ShloMosaic

open Classical in
/-- How many selected tokens there are before token `n`. -/
def cnt (P : ℕ → Prop) (n : ℕ) : ℕ := Nat.count P n

open Classical in
/-- The position of the `j`-th selected token among `N` tokens, found by counting. -/
def pos (P : ℕ → Prop) (N j : ℕ) : ℕ := Nat.count (fun i => cnt P (i + 1) ≤ j) N

/-- None below zero. -/
theorem cnt_zero (P : ℕ → Prop) : cnt P 0 = 0 := by classical exact Nat.count_zero P
/-- A number with the property counts one more. -/
theorem cnt_succ_pos (P : ℕ → Prop) (n : ℕ) (h : P n) : cnt P (n + 1) = cnt P n + 1 := by
  classical
  unfold cnt; rw [Nat.count_succ, if_pos h]
/-- A number without it counts no more. -/
theorem cnt_succ_neg (P : ℕ → Prop) (n : ℕ) (h : ¬ P n) : cnt P (n + 1) = cnt P n := by
  classical
  unfold cnt; rw [Nat.count_succ, if_neg h, Nat.add_zero]
/-- The count grows. -/
theorem cnt_mono (P : ℕ → Prop) {a b : ℕ} (h : a ≤ b) : cnt P a ≤ cnt P b := by
  classical
  exact Nat.count_monotone P h
/-- The count is at most the bound. -/
theorem cnt_le (P : ℕ → Prop) (n : ℕ) : cnt P n ≤ n := by
  classical
  exact Nat.count_le P

/-- Counting the tokens before a threshold. -/
theorem count_lt_eq (t N : ℕ) (h : t ≤ N) (Q : ℕ → Prop) [DecidablePred Q] (hQ : ∀ i < N, Q i ↔ i < t) : Nat.count Q N = t := by
  induction N generalizing t with
  | zero => simp at h; simp [h]
  | succ N ih =>
    rw [Nat.count_succ]
    rcases Nat.lt_or_ge t (N + 1) with h1 | h1
    · rw [ih t (by omega) fun i hi => hQ i (by omega), if_neg (by rw [hQ N (by omega)]; omega)]; omega
    · have ht : t = N + 1 := by omega
      rw [ih N (le_refl _) fun i hi => by rw [hQ i (by omega)]; omega, if_pos (by rw [hQ N (by omega)]; omega)]; omega

/-- The selected token `t` is found at its own place. -/
theorem pos_cnt (P : ℕ → Prop) (N t : ℕ) (ht : t < N) (h : P t) : pos P N (cnt P t) = t := by
  classical
  unfold pos
  refine count_lt_eq t N ht.le _ fun i hi => ?_
  constructor
  · intro h1
    by_contra h2
    have := cnt_mono P (show t + 1 ≤ i + 1 by omega)
    rw [cnt_succ_pos P t h] at this
    omega
  · intro h1; exact cnt_mono P (by omega)

/-- Below a number with the property there are fewer than in all. -/
theorem cnt_lt_total (P : ℕ → Prop) (N t : ℕ) (ht : t < N) (h : P t) : cnt P t < cnt P N := by
  have := cnt_mono P (show t + 1 ≤ N by omega)
  rw [cnt_succ_pos P t h] at this
  omega

/-- While there are enough, the position of the one at rank `j` is below the bound. -/
theorem pos_lt (P : ℕ → Prop) (N j : ℕ) (h : j < cnt P N) : pos P N j < N := by
  classical
  exact Routing.count_nonzero_lt P N j h

/-- Below every token with selected ones before it there is a last one. -/
theorem exists_prev (P : ℕ → Prop) (t : ℕ) (h : 0 < cnt P t) : ∃ s < t, P s ∧ cnt P s + 1 = cnt P t ∧ ∀ i, s < i → i < t → ¬ P i := by
  induction t with
  | zero => rw [cnt_zero] at h; omega
  | succ t ih =>
    by_cases hp : P t
    · exact ⟨t, by omega, hp, (cnt_succ_pos P t hp).symm, fun i h1 h2 => by omega⟩
    · rw [cnt_succ_neg P t hp] at h
      obtain ⟨s, hs, h1, h2, h3⟩ := ih h
      refine ⟨s, by omega, h1, by rw [cnt_succ_neg P t hp]; exact h2, fun i h4 h5 => ?_⟩
      rcases Nat.lt_or_ge i t with h6 | h6
      · exact h3 i h4 h6
      · rwa [show i = t by omega]

/-- Two counts differ exactly when something is counted between. -/
theorem cnt_ne_iff (S : ℕ → Prop) (a b : ℕ) (hab : a ≤ b) : cnt S b ≠ cnt S a ↔ ∃ i, a ≤ i ∧ i < b ∧ S i := by
  induction b with
  | zero =>
    have : a = 0 := by omega
    subst this
    constructor
    · intro h; exact absurd rfl h
    · rintro ⟨i, _, h, _⟩; omega
  | succ b ih =>
    rcases Nat.lt_or_ge b a with h | h
    · have : a = b + 1 := by omega
      subst this
      constructor
      · intro h; exact absurd rfl h
      · rintro ⟨i, _, _, _⟩; omega
    · have ih := ih h
      have hm := cnt_mono S h
      by_cases hs : S b
      · rw [cnt_succ_pos S b hs]
        exact ⟨fun _ => ⟨b, h, by omega, hs⟩, fun _ => by omega⟩
      · rw [cnt_succ_neg S b hs, ih]
        constructor
        · rintro ⟨i, h1, h2, h3⟩; exact ⟨i, h1, by omega, h3⟩
        · rintro ⟨i, h1, h2, h3⟩
          rcases Nat.lt_or_ge i b with h4 | h4
          · exact ⟨i, h1, h4, h3⟩
          · exact absurd (show S b by rwa [show b = i by omega]) hs

section
variable (cu : Fin 9 → BitVec 32) (x : Toks) (wq wk wm : Wt)

/-- Token `i` is named by one of the starts after the first. -/
def Later (i : ℕ) : Prop := ∃ s : Fin 7, cu s.succ.castSucc = BitVec.ofNat 32 i

open Classical in
/-- The token the `j`-th step of the recurrence over the selected tokens reads. -/
def idx (j : ℕ) : ℕ := if cnt (Sel cu x wq wk) 16384 ≤ j then 16383 else pos (Sel cu x wq wk) 16384 j

/-- The token at a rank is a token. -/
theorem idx_lt (j : ℕ) : idx cu x wq wk j < 16384 := by
  unfold idx
  split_ifs with h
  · omega
  · exact pos_lt _ _ _ (by omega)

open Classical in
/-- Whether the `j`-th selected token starts a segment, as the reference decides it. -/
def first (j : ℕ) : Prop := j = 0 ∨ cnt (Later cu) (idx cu x wq wk j + 1) ≠ cnt (Later cu) (idx cu x wq wk (j - 1) + 1)

open Classical in
/-- The recurrence over the selected tokens. -/
def Z : ℕ → Fin 512 → EReal
  | 0, _ => 0
  | j + 1, d => (if first cu x wq wk j then 0 else 1 - pp cu x wq wk (idx cu x wq wk j)) * Z j d
      + pp cu x wq wk (idx cu x wq wk j) * proj x wm (idx cu x wq wk j) d

variable {cu}

/-- A later start is a start. -/
theorem later_isf {i : ℕ} (h : Later cu i) : Isf cu i := h.elim fun s hs => ⟨s.succ, hs⟩

/-- A start other than the first token's is a later start. -/
theorem isf_later (hS : Starts cu) {i : ℕ} (h : Isf cu i) (hi : 0 < i) (hi' : i < 16384) : Later cu i := by
  obtain ⟨s, hs⟩ := h
  rcases Fin.eq_zero_or_eq_succ s with h0 | ⟨s', h1⟩
  · subst h0
    have hz : cu 0 = BitVec.ofNat 32 i := hs
    rw [hS.zero] at hz
    have := congrArg BitVec.toNat hz
    simp only [BitVec.toNat_ofNat] at this
    omega
  · subst h1; exact ⟨s', hs⟩

/-- The token whose rank is the count before a selected token is that token. -/
theorem idx_cnt (t : ℕ) (ht : t < 16384) (h : Sel cu x wq wk t) : idx cu x wq wk (cnt (Sel cu x wq wk) t) = t := by
  unfold idx
  rw [if_neg (by have := cnt_lt_total _ 16384 t ht h; omega)]
  exact pos_cnt _ _ t ht h

/-- The selected token `t` is taken for the start of a segment exactly when it is one. -/
theorem first_iff (hS : Starts cu) (t : ℕ) (ht : t < 16384) (h : Sel cu x wq wk t) :
    first cu x wq wk (cnt (Sel cu x wq wk) t) ↔ Isf cu t := by
  have h0 : Sel cu x wq wk 0 := sel_of_isf cu x wq wk 0 hS.isf_zero
  unfold first
  rw [idx_cnt x wq wk t ht h]
  rcases Nat.eq_zero_or_pos t with hz | hp
  · subst hz; exact ⟨fun _ => hS.isf_zero, fun _ => Or.inl (cnt_zero _)⟩
  · have hc : 0 < cnt (Sel cu x wq wk) t := by
      have := cnt_mono (Sel cu x wq wk) (show 0 + 1 ≤ t by omega)
      rw [cnt_succ_pos _ 0 h0] at this
      omega
    obtain ⟨s, hs, hsel, hcs, hbetween⟩ := exists_prev _ t hc
    rw [show cnt (Sel cu x wq wk) t - 1 = cnt (Sel cu x wq wk) s by omega, idx_cnt x wq wk s (by omega) hsel,
      cnt_ne_iff _ _ _ (by omega)]
    constructor
    · rintro (h1 | ⟨i, h1, h2, h3⟩)
      · omega
      · rcases Nat.lt_or_ge i t with h4 | h4
        · exact absurd (sel_of_isf cu x wq wk i (later_isf h3)) (hbetween i (by omega) h4)
        · rw [show t = i by omega]; exact later_isf h3
    · intro h1; exact Or.inr ⟨t, by omega, by omega, isf_later hS h1 hp ht⟩

/-- The recurrence over the selected tokens before `t` ends at the state before `t`. -/
theorem Z_eq_state (hS : Starts cu) (t : ℕ) (ht : t ≤ 16384) (d : Fin 512) :
    Z cu x wq wk wm (cnt (Sel cu x wq wk) t) d = state cu x wq wk wm t d := by
  induction t with
  | zero => rw [cnt_zero]; rfl
  | succ t ih =>
    have ih := ih (by omega)
    rw [state]
    by_cases h : Sel cu x wq wk t
    · rw [cnt_succ_pos _ t h, Z, ih, idx_cnt x wq wk t (by omega) h, inc, if_pos h, coef]
      congr 2
      by_cases hf : Isf cu t
      · rw [if_pos hf, if_pos ((first_iff x wq wk hS t (by omega) h).2 hf)]
      · rw [if_neg hf, if_pos h, if_neg fun h' => hf ((first_iff x wq wk hS t (by omega) h).1 h')]
    · rw [cnt_succ_neg _ t h, ih, inc, if_neg h, coef, if_neg fun h' => h (sel_of_isf cu x wq wk t h'), if_neg h, one_mul, zero_mul, add_zero]

end

end Cert.Proof.RefMath
end
-- ==== Proof.RefMeaning.lean ====
module

public import proofs.«01_k».proof.Proof.RefOps
public import proofs.«01_k».proof.Proof.RefMath

/-! What the reference's buffers hold when the loop is entered: probabilities, the selection, the positions of the selected tokens,
and the coefficients of the recurrence over them. -/

@[expose] public section

set_option maxRecDepth 16384

noncomputable section

namespace Cert.Proof.RefMeaning
open Cert.ReferenceIdeal Cert.ReferenceIdeal.Gen Cert.ReferenceIdeal.Value
open Idealize.ShloMosaic Idealize.ShloMosaic.TcCoe Idealize.ShloMosaic.StableHlo
open Cert.Proof.RefRun Cert.Proof.RefVals Cert.Proof.RefAt Cert.Proof.RefOps Cert.Proof.RefMath Cert.Proof.Spec Cert.Proof.Args

variable (m : (ℓ : Loc nD τ sig) → Buf (Elt Ideal) ℓ) (c : Dev nD)

/-- The tokens. -/
def X : Toks := toks (arg0 (A28 m c))
/-- The table of starts. -/
def C : Fin 9 → BitVec 32 := starts (arg1 (A28 m c))
/-- The query weights. -/
def Wq : Wt := wt (arg2 (A28 m c))
/-- The key weights. -/
def Wk : Wt := wt (arg3 (A28 m c))
/-- The main weights. -/
def Wm : Wt := wt (arg4 (A28 m c))

/-- A row times a matrix is the specification's projection. -/
theorem proj_at (w : S512x512.Idx → EReal) (t : Fin 16384) (n : ℕ) (h : n = t.val) (e : Fin 512) :
    proj (X m c) (wt w) n e = ∑ k, arg0 (A28 m c) (ix2 t k) * w (ix2 k e) := by
  subst h
  exact Finset.sum_congr rfl fun k _ => congrArg (· * w (ix2 k e)) (toks_of_lt _ t.val t.isLt k)

/-- The raw probabilities. -/
theorem v27_eq (t : Fin 16383) : v27 (A28 m c) (ix1 t) = praw (X m c) (Wq m c) (Wk m c) (t.val + 1) := by
  have hq : ∀ e, proj (X m c) (Wq m c) (t.val + 1 - 1) e = _ := fun e => proj_at m c (arg2 (A28 m c)) (⟨t.val, by omega⟩ : Fin 16384) _ (by simp) e
  have hk : ∀ e, proj (X m c) (Wk m c) (t.val + 1) e = _ := fun e => proj_at m c (arg3 (A28 m c)) (⟨1 + t.val, by omega⟩ : Fin 16384) _ (Nat.add_comm _ _) e
  unfold praw prob eps two
  simp only [hq, hk]
  rw [e_v27, e_cst_6, e_cst_7, e_v26, e_v16, e_v17, e_v18]
  simp only [e_v13, e_v14]

variable {m c}

section
variable (hS : Starts (C m c))
include hS

/-- A start is not negative. -/
theorem start_nat (s : Fin 8) : ((C m c) s.castSucc).toNat < 2147483648 := by
  obtain ⟨k, hk, e⟩ := hS.block s
  rw [e, BitVec.toNat_ofNat]
  omega

/-- The marks of the segments' first tokens. -/
theorem v39_eq (t : Fin 16384) [Decidable (Isf (C m c) t.val)] : v39 (A28 m c) (ix1 t) = if Isf (C m c) t.val then 1#1 else 0#1 := by
  rw [e_v39]
  have hidx : ∀ s : Fin 8, broadcastInDim S8x1 ![0] bcast_S8_S8x1_0 (select (cmpi .slt (extractStridedSlice S8 ![0] (arg1 (A28 m c)) slices_S9_S8_0) (broadcastInDim S8 ![] bcast_S_S8 (constantI S_ 32 0#32)))
      (addi (extractStridedSlice S8 ![0] (arg1 (A28 m c)) slices_S9_S8_0) (broadcastInDim S8 ![] bcast_S_S8 (constantI S_ 32 16384#32))) (extractStridedSlice S8 ![0] (arg1 (A28 m c)) slices_S9_S8_0)) (ix2 s (0 : Fin 1))
        = (C m c) s.castSucc := fun s => by
    refine Eq.trans ?_ (Routing.wrap_of_lt _ (IntOp.addi ((C m c) s.castSucc) 16384#32) (start_nat hS s))
    unfold C starts
    pointwise
    rfl
  refine (marks scatter_S16384_S8x1_S8_n_0_0_1 rfl rfl rfl _ _ _ 0#1 1#1 (fun _ => rfl) (fun _ => rfl) (fun s => C m c s.castSucc) hidx (start_nat hS) t).trans ?_
  by_cases h : Isf (C m c) t.val
  · rw [if_pos h]; exact if_pos h
  · rw [if_neg h]; exact if_neg h

/-- The later starts' marks. -/
theorem v9_eq (t : Fin 16384) [Decidable (Later (C m c) t.val)] : v9 (A28 m c) (ix1 t) = BitVec.ofNat 32 (if Later (C m c) t.val then 1 else 0) := by
  rw [e_v9]
  have hidx : ∀ s : Fin 7, broadcastInDim S7x1 ![0] bcast_S7_S7x1_0 (select (cmpi .slt (extractStridedSlice S7 ![1] (arg1 (A28 m c)) slices_S9_S7_1) (broadcastInDim S7 ![] bcast_S_S7 (constantI S_ 32 0#32)))
      (addi (extractStridedSlice S7 ![1] (arg1 (A28 m c)) slices_S9_S7_1) (broadcastInDim S7 ![] bcast_S_S7 (constantI S_ 32 16384#32))) (extractStridedSlice S7 ![1] (arg1 (A28 m c)) slices_S9_S7_1)) (ix2 s (0 : Fin 1))
        = (C m c) s.succ.castSucc := fun s => by
    refine Eq.trans ?_ (Routing.wrap_of_lt _ (IntOp.addi ((C m c) s.succ.castSucc) 16384#32) (start_nat hS s.succ))
    have hs : (⟨1 + s.val, by omega⟩ : Fin 9) = s.succ.castSucc := Fin.ext (Nat.add_comm _ _)
    unfold C starts
    rw [← hs]
    pointwise
  refine (marks scatter_S16384_S7x1_S7_n_0_0_1 rfl rfl rfl _ _ _ 0#32 1#32 (fun _ => rfl) (fun _ => rfl) (fun s => C m c s.succ.castSucc) hidx (fun s => start_nat hS s.succ) t).trans ?_
  by_cases h : Later (C m c) t.val
  · rw [if_pos h]; exact if_pos h
  · rw [if_neg h]; exact if_neg h

/-- The number of each token's segment. -/
theorem v10_eq (t : Fin 16384) : v10 (A28 m c) (ix1 t) = BitVec.ofNat 32 (cnt (Later (C m c)) (t.val + 1)) := by
  classical
  rw [e_v10, cumsum _ (fun i => if Later (C m c) i then 1 else 0) (fun i => v9_eq hS i), Routing.sum_map_ite]
  unfold cnt
  congr 2

/-- The clamped probabilities. -/
theorem v41_eq (t : Fin 16384) : v41 (A28 m c) (ix1 t) = pp (C m c) (X m c) (Wq m c) (Wk m c) t.val := by
  classical
  rw [e_v41, e_cst_14, e_cst_15, e_v40, e_cst_13, v39_eq hS t, e_v29]
  unfold pp lo hi
  by_cases h : Isf (C m c) t.val
  · rw [if_pos h, if_pos h]; rfl
  · rw [if_neg h, if_neg h]
    have ht : ¬ t.val < 1 := fun h1 => h (by rw [show t.val = 0 by omega]; exact hS.isf_zero)
    rw [dif_neg ht, v27_eq]
    have e : t.val - 1 + 1 = t.val := by omega
    simp only [e]
    rfl

/-- The selection. -/
theorem v43_eq (t : Fin 16384) [Decidable (Sel (C m c) (X m c) (Wq m c) (Wk m c) t.val)] :
    v43 (A28 m c) (ix1 t) = BitVec.ofBool (decide (Sel (C m c) (X m c) (Wq m c) (Wk m c) t.val)) := by
  rw [e_v43, v41_eq hS]
  congr 1
  exact decide_eq_decide.2 Iff.rfl

/-- The mark of a selected token, as a word. -/
theorem v43_nat (t : Fin 16384) [Decidable (Sel (C m c) (X m c) (Wq m c) (Wk m c) t.val)] :
    (v43 (A28 m c) (ix1 t)).setWidth 32 = BitVec.ofNat 32 (if Sel (C m c) (X m c) (Wq m c) (Wk m c) t.val then 1 else 0) := by
  rw [v43_eq hS t, Routing.setWidth_ofBool]

/-- The running count of the selected tokens. -/
theorem v44_eq (t : Fin 16384) : v44 (A28 m c) (ix1 t) = BitVec.ofNat 32 (cnt (Sel (C m c) (X m c) (Wq m c) (Wk m c)) (t.val + 1)) := by
  classical
  rw [e_v44, cumsum (extui 32 (v43 (A28 m c)) natLt_1_32) (fun i => if Sel (C m c) (X m c) (Wq m c) (Wk m c) i then 1 else 0) (fun i => v43_nat hS i), Routing.sum_map_ite]
  unfold cnt
  congr 2

/-- How many tokens have exactly a given number of selected ones up to them. -/
theorem v53_eq (t : Fin 16384) : v53 (A28 m c) (ix1 t)
    = BitVec.ofNat 32 (Nat.count (fun i => cnt (Sel (C m c) (X m c) (Wq m c) (Wk m c)) (i + 1) = t.val) 16384) := by
  rw [e_v53]
  refine hist _ (fun i => cnt (Sel (C m c) (X m c) (Wq m c) (Wk m c)) (i + 1)) (fun i => v44_eq hS i) (fun i => ?_) t
  have := cnt_le (Sel (C m c) (X m c) (Wq m c) (Wk m c)) (i.val + 1)
  omega

/-- The selected tokens' positions. -/
theorem v54_eq (t : Fin 16384) : v54 (A28 m c) (ix1 t) = BitVec.ofNat 32 (pos (Sel (C m c) (X m c) (Wq m c) (Wk m c)) 16384 t.val) := by
  classical
  rw [e_v54, cumsum _ (fun j => Nat.count (fun i => cnt (Sel (C m c) (X m c) (Wq m c) (Wk m c)) (i + 1) = j) 16384) (fun i => v53_eq hS i),
    Routing.sum_count_eq]
  unfold pos
  congr 2

/-- A position is at most the number of tokens. -/
theorem pos_le (j : ℕ) : pos (Sel (C m c) (X m c) (Wq m c) (Wk m c)) 16384 j ≤ 16384 := by
  classical
  exact Nat.count_le _

/-- The position of the selected token at each rank, as a word. -/
theorem v55_eq (t : Fin 16384) : v55 (A28 m c) (ix1 t) = BitVec.ofNat 32 (pos (Sel (C m c) (X m c) (Wq m c) (Wk m c)) 16384 t.val) := by
  rw [e_v55, Routing.pyDiv_ap bcast_S_S16384 _ _ (ix1 t) (v54_eq hS t) (b := 1) (e_c_21 m c) (by have := pos_le hS t.val; omega) (by omega) (by omega), Nat.div_one]

/-- The same, reduced modulo the number of tokens. -/
theorem v56_eq (t : Fin 16384) : v56 (A28 m c) (ix1 t) = BitVec.ofNat 32 (pos (Sel (C m c) (X m c) (Wq m c) (Wk m c)) 16384 t.val % 16384) := by
  rw [e_v56]
  exact Routing.pyRem_ap bcast_S_S16384 _ _ (ix1 t) (v55_eq hS t) (e_c_22 m c) (by have := pos_le hS t.val; omega) (by omega) (by omega)

/-- Whether a rank is beyond the number of selected tokens. -/
theorem v62_eq (t : Fin 16384) : v62 (A28 m c) (ix1 t) = BitVec.ofBool (decide (cnt (Sel (C m c) (X m c) (Wq m c) (Wk m c)) 16384 ≤ t.val)) := by
  classical
  have ht := total (extui 32 (v43 (A28 m c)) natLt_1_32) (fun i => if Sel (C m c) (X m c) (Wq m c) (Wk m c) i then 1 else 0) (fun i => v43_nat hS i)
  rw [Routing.sum_map_ite] at ht
  rw [e_v62]
  have e : ∀ w : S_.Idx → BitVec 32, cmpi .sge (iotaInDim S16384 32 0) (broadcastInDim S16384 ![0] bcast_S1_S16384_0 (broadcastInDim S1 ![] bcast_S_S1 w)) (ix1 t)
      = IntOp.cmpi .sge (BitVec.ofNat 32 t.val) (w ix0) := fun w => by pointwise
  rw [e, ht]
  have hc := cnt_le (Sel (C m c) (X m c) (Wq m c) (Wk m c)) 16384
  have hcnt : Nat.count (Sel (C m c) (X m c) (Wq m c) (Wk m c)) 16384 = cnt (Sel (C m c) (X m c) (Wq m c) (Wk m c)) 16384 := by unfold cnt; congr
  rw [hcnt, WordCmp.cmpi_sge_ofNat (w := 32) (by omega) (by omega)]

/-- The tokens the recurrence reads. -/
theorem v64_eq (t : Fin 16384) : v64 (A28 m c) (ix1 t) = BitVec.ofNat 32 (idx (C m c) (X m c) (Wq m c) (Wk m c) t.val) := by
  rw [e_v64, e_v63, v62_eq hS, v56_eq hS]
  unfold idx
  by_cases h : cnt (Sel (C m c) (X m c) (Wq m c) (Wk m c)) 16384 ≤ t.val
  · rw [if_pos h, decide_eq_true h]; rfl
  · rw [if_neg h, decide_eq_false h, Nat.mod_eq_of_lt (pos_lt _ _ _ (by omega))]; rfl

/-- The selected tokens. -/
theorem v65_eq (t : Fin 16384) (d : Fin 512) : v65 (A28 m c) (ix2 t d) = X m c (idx (C m c) (X m c) (Wq m c) (Wk m c) t.val) d := by
  have hk := idx_lt (C m c) (X m c) (Wq m c) (Wk m c) t.val
  rw [e_v65, take_row _ _ _ t d _ hk (v64_eq hS t)]
  exact (toks_of_lt _ _ hk d).symm

/-- Their projections. -/
theorem v66_eq (t : Fin 16384) (d : Fin 512) : v66 (A28 m c) (ix2 t d) = proj (X m c) (Wm m c) (idx (C m c) (X m c) (Wq m c) (Wk m c) t.val) d := by
  rw [e_v66]
  exact Finset.sum_congr rfl fun k _ => congrArg (· * arg4 (A28 m c) (ix2 k d)) (v65_eq hS t k)

/-- Their probabilities. -/
theorem v67_eq (t : Fin 16384) : v67 (A28 m c) (ix1 t) = pp (C m c) (X m c) (Wq m c) (Wk m c) (idx (C m c) (X m c) (Wq m c) (Wk m c) t.val) := by
  have hk := idx_lt (C m c) (X m c) (Wq m c) (Wk m c) t.val
  rw [e_v67, take_entry _ _ _ t _ hk (v64_eq hS t), v41_eq hS]

/-- How many later starts there are up to each selected token. -/
theorem v68_eq (t : Fin 16384) : v68 (A28 m c) (ix1 t) = BitVec.ofNat 32 (cnt (Later (C m c)) (idx (C m c) (X m c) (Wq m c) (Wk m c) t.val + 1)) := by
  have hk := idx_lt (C m c) (X m c) (Wq m c) (Wk m c) t.val
  rw [e_v68, take_entry _ _ _ t _ hk (v64_eq hS t), v10_eq hS]

/-- Which steps of the recurrence forget the state. -/
theorem v73_eq (t : Fin 16384) [Decidable (first (C m c) (X m c) (Wq m c) (Wk m c) t.val)] :
    v73 (A28 m c) (ix1 t) = BitVec.ofBool (decide (first (C m c) (X m c) (Wq m c) (Wk m c) t.val)) := by
  rw [e_v73]
  by_cases h : t.val < 1
  · have hf : first (C m c) (X m c) (Wq m c) (Wk m c) t.val := Or.inl (by omega)
    rw [dif_pos h, decide_eq_true hf]; rfl
  · have ht : (⟨1 + (t.val - 1), by omega⟩ : Fin 16384) = t := Fin.ext (by show 1 + (t.val - 1) = t.val; omega)
    rw [dif_neg h, ht, v68_eq hS, v68_eq hS]
    dsimp only
    have h1 := cnt_le (Later (C m c)) (idx (C m c) (X m c) (Wq m c) (Wk m c) t.val + 1)
    have h2 := cnt_le (Later (C m c)) (idx (C m c) (X m c) (Wq m c) (Wk m c) (t.val - 1) + 1)
    have h3 := idx_lt (C m c) (X m c) (Wq m c) (Wk m c) t.val
    have h4 := idx_lt (C m c) (X m c) (Wq m c) (Wk m c) (t.val - 1)
    rw [WordCmp.cmpi_ne_ofNat (w := 32) (by omega) (by omega)]
    refine congrArg BitVec.ofBool (decide_eq_decide.2 ?_)
    exact ⟨fun h => Or.inr h, fun h => h.resolve_left (by omega)⟩

/-- The coefficients of the recurrence. -/
theorem a_eq (t : Fin 16384) [Decidable (first (C m c) (X m c) (Wq m c) (Wk m c) t.val)] :
    v82_0 (A28 m c) (ix1 t) = if first (C m c) (X m c) (Wq m c) (Wk m c) t.val then 0 else 1 - pp (C m c) (X m c) (Wq m c) (Wk m c) (idx (C m c) (X m c) (Wq m c) (Wk m c) t.val) := by
  rw [e_v82_0, e_v76, e_cst_27, e_v75, v67_eq hS, v73_eq hS]
  by_cases h : first (C m c) (X m c) (Wq m c) (Wk m c) t.val
  · rw [if_pos h, decide_eq_true h]; rfl
  · rw [if_neg h, decide_eq_false h]; rfl

/-- What each step of the recurrence adds. -/
theorem bb_eq (t : Fin 16384) (d : Fin 512) : v82_1 (A28 m c) (ix2 t d)
    = pp (C m c) (X m c) (Wq m c) (Wk m c) (idx (C m c) (X m c) (Wq m c) (Wk m c) t.val) * proj (X m c) (Wm m c) (idx (C m c) (X m c) (Wq m c) (Wk m c) t.val) d := by
  rw [e_v82_1, v67_eq hS, v66_eq hS]

end

end Cert.Proof.RefMeaning
end
-- ==== Proof.RefLoop.lean ====
module

public import proofs.«01_k».proof.Proof.RefMeaning

/-! The reference's loop: after `k` trips the carried state is the recurrence's after `k` selected tokens, and the rows written so
far are the states after each. -/

@[expose] public section

set_option maxRecDepth 16384

noncomputable section

namespace Cert.Proof.RefLoop
open Cert.ReferenceIdeal Cert.ReferenceIdeal.Gen Cert.ReferenceIdeal.Value
open Idealize.ShloMosaic Idealize.ShloMosaic.TcCoe Idealize.ShloMosaic.StableHlo
open Cert.Proof.RefRun Cert.Proof.RefVals Cert.Proof.RefAt Cert.Proof.RefMath Cert.Proof.RefMeaning Cert.Proof.Spec

/-- The entry a slice of one starts at. -/
theorem entry_at (a : S16384.Idx → EReal) (st : Fin 1 → ℤ) (k : ℕ) (hk : k < 16384) (h0 : st 0 = k) :
    shapeCast S_ (Host.dynamicSlice S1 a st sliceFits_S16384_S1) shapeCasts_S1_S_ ix0 = a (ix1 (⟨k, hk⟩ : Fin 16384)) := by
  have c0 := Host.clampedStart_of_le (s := S16384) (t := S1) rfl st 0 k h0 (show k + 1 ≤ 16384 by omega)
  pointwise
  exact congrArg (fun q : Fin 16384 => a (ix1 q)) (Fin.ext c0)

/-- The row a slice of one row starts at. -/
theorem row_at (a : S16384x512.Idx → EReal) (st : Fin 2 → ℤ) (k : ℕ) (hk : k < 16384) (h0 : st 0 = k) (h1 : st 1 = (0 : ℕ)) (d : Fin 512) :
    shapeCast S512 (Host.dynamicSlice S1x512 a st sliceFits_S16384x512_S1x512) shapeCasts_S1x512_S512 (ix1 d) = a (ix2 (⟨k, hk⟩ : Fin 16384) d) := by
  have c0 := Host.clampedStart_of_le (s := S16384x512) (t := S1x512) rfl st 0 k h0 (show k + 1 ≤ 16384 by omega)
  have c1 := Host.clampedStart_of_le (s := S16384x512) (t := S1x512) rfl st 1 0 h1 (show 0 + 512 ≤ 512 by omega)
  pointwise
  congr 2
  · exact Fin.ext c0
  · exact Fin.ext (by dsimp only; rw [c1, Nat.zero_add])

/-- Writing one row. -/
theorem update_at (a : S16384x512.Idx → EReal) (u : S512.Idx → EReal) (st : Fin 2 → ℤ) (k : ℕ) (hk : k < 16384) (h0 : st 0 = k) (h1 : st 1 = (0 : ℕ))
    (t : Fin 16384) (d : Fin 512) :
    Host.dynamicUpdateSlice a (broadcastInDim S1x512 ![1] bcast_S512_S1x512_1 u) st updateFits_S16384x512_S1x512 (ix2 t d)
      = if t.val = k then u (ix1 d) else a (ix2 t d) := by
  have c0 := Host.clampedStart_of_le (s := S16384x512) (t := S1x512) rfl st 0 k h0 (show k + 1 ≤ 16384 by omega)
  have c1 := Host.clampedStart_of_le (s := S16384x512) (t := S1x512) rfl st 1 0 h1 (show 0 + 512 ≤ 512 by omega)
  pointwise
  by_cases h : t.val = k
  · rw [if_pos h, dif_pos ⟨⟨c0.le.trans h.ge, by rw [c0]; omega⟩, by rw [c1]; omega⟩]
    exact congrArg (fun r : Fin 512 => u (ix1 r)) (Fin.ext (congrArg (d.val - ·) c1))
  · rw [if_neg h, dif_neg fun h' => h (by have e1 := h'.1.1; have e2 := h'.1.2; rw [c0] at e1 e2; omega)]

variable (V : Valuation τ sig (Elt Ideal))

/-- The counter, read as a number. -/
theorem ctr_nat (k : ℕ) (hk : k < 16384) : (Scf.iv 0#32 1#32 k : BitVec 32).toInt = (k : ℤ) := by
  have : (Scf.iv 0#32 1#32 k : BitVec 32) = BitVec.ofNat 32 k := by unfold Scf.iv; simp
  rw [this, WordCmp.toInt_ofNat_of_lt (w := 32) (by omega)]

/-- The state one trip computes. -/
theorem res_at (k : ℕ) (hk : k < 16384) (hV : V (Proc.devRef .tc main_v82_2) = fun _ => Scf.iv 0#32 1#32 k) (d : Fin 512) :
    (show S512.Idx → EReal from res_main_while0b_v103 V) (ix1 d)
      = v82_0 V (ix1 (⟨k, hk⟩ : Fin 16384)) * v82_3 V (ix1 d) + v82_1 V (ix2 (⟨k, hk⟩ : Fin 16384) d) := by
  have h1 : (fun j => (((![V (Proc.devRef .tc main_v82_2)] : Fin 1 → (⟨S_, .i32⟩ : BufTy).Contents (Elt Ideal))) j (Shape.Idx.first h_S_)).toInt) 0 = (k : ℤ) := by
    show (V (Proc.devRef .tc main_v82_2) (Shape.Idx.first h_S_) : BitVec 32).toInt = _
    rw [hV]; exact ctr_nat k hk
  have e : ∀ (x : S_.Idx → EReal) (y z : S512.Idx → EReal), addf (F := Ideal) (φ := .f32) (mulf (broadcastInDim S512 ![] bcast_S_S512 x) y) z (ix1 d) = x ix0 * y (ix1 d) + z (ix1 d) :=
    fun x y z => by pointwise
  refine (e _ _ _).trans ?_
  exact congrArg₂ (HAdd.hAdd : EReal → EReal → EReal) (congrArg (· * v82_3 V (ix1 d)) (entry_at (v82_0 V) _ k hk h1)) (row_at (v82_1 V) _ k hk h1 rfl d)

/-- The state after one trip. -/
theorem step3 (k : ℕ) (hk : k < 16384) (hV : V (Proc.devRef .tc main_v82_2) = fun _ => Scf.iv 0#32 1#32 k) (d : Fin 512) :
    v82_3 (afterL bodyI V) (ix1 d) = v82_0 V (ix1 (⟨k, hk⟩ : Fin 16384)) * v82_3 V (ix1 d) + v82_1 V (ix2 (⟨k, hk⟩ : Fin 16384) d) :=
  (congrFun (trip_main_v82_3 V) (ix1 d)).trans (res_at V k hk hV d)

/-- The rows after one trip: the trip's row is the new state, the others stay. -/
theorem step4 (k : ℕ) (hk : k < 16384) (hV : V (Proc.devRef .tc main_v82_2) = fun _ => Scf.iv 0#32 1#32 k) (t : Fin 16384) (d : Fin 512) :
    v82_4 (afterL bodyI V) (ix2 t d)
      = if t.val = k then v82_0 V (ix1 (⟨k, hk⟩ : Fin 16384)) * v82_3 V (ix1 d) + v82_1 V (ix2 (⟨k, hk⟩ : Fin 16384) d) else v82_4 V (ix2 t d) := by
  have h1 : (fun j => (((![V (Proc.devRef .tc main_v82_2), constantI S_ 32 0#32] : Fin 2 → (⟨S_, .i32⟩ : BufTy).Contents (Elt Ideal))) j (Shape.Idx.first h_S_)).toInt) 0 = (k : ℤ) := by
    show (V (Proc.devRef .tc main_v82_2) (Shape.Idx.first h_S_) : BitVec 32).toInt = _
    rw [hV]; exact ctr_nat k hk
  refine (congrFun (trip_main_v82_4 V) (ix2 t d)).trans ?_
  refine (update_at (v82_4 V) (res_main_while0b_v103 V) _ k hk h1 rfl t d).trans ?_
  rw [← res_at V k hk hV d]

variable (m : (ℓ : Loc nD τ sig) → Buf (Elt Ideal) ℓ) (c : Dev nD)

/-- The loop's condition leaves every buffer but its own two. -/
theorem cond_keep {r : Ref sig .tc} (h : r ∉ condOps_W) : after condOps V (Proc.devRef .tc r) = V (Proc.devRef .tc r) :=
  after_of_writes_sub _ _ condOps_writes h

/-- The coefficients stay. -/
theorem keep0 (k : ℕ) : v82_0 (atK m k c) = v82_0 (A28 m c) := by
  induction k with
  | zero => exact congrArg v82_0 (entry_eq m c)
  | succ k ih => exact (trip_main_v82_0 _).trans ((cond_keep _ (by decide)).trans ih)

/-- What the steps add stays. -/
theorem keep1 (k : ℕ) : v82_1 (atK m k c) = v82_1 (A28 m c) := by
  induction k with
  | zero => exact congrArg v82_1 (entry_eq m c)
  | succ k ih => exact (trip_main_v82_1 _).trans ((cond_keep _ (by decide)).trans ih)

variable {m c}

/-- The invariant. -/
theorem loop (hS : Starts (C m c)) (k : ℕ) (hk : k ≤ 16384) :
    (∀ d, v82_3 (atK m k c) (ix1 d) = Z (C m c) (X m c) (Wq m c) (Wk m c) (Wm m c) k d)
      ∧ ∀ (t : Fin 16384) (d : Fin 512), t.val < k → v82_4 (atK m k c) (ix2 t d) = Z (C m c) (X m c) (Wq m c) (Wk m c) (Wm m c) (t.val + 1) d := by
  classical
  induction k with
  | zero =>
    refine ⟨fun d => ?_, fun t d h => absurd h (Nat.not_lt_zero _)⟩
    exact (congrFun (congrArg v82_3 (entry_eq m c)) (ix1 d)).trans (e_v82_3 m c d)
  | succ k ih =>
    obtain ⟨ih3, ih4⟩ := ih (by omega)
    have hk' : k < 16384 := by omega
    have hc : after condOps (atK m k c) (Proc.devRef .tc main_v82_2) = fun _ => Scf.iv 0#32 1#32 k :=
      (cond_keep _ (by decide)).trans (atK_ctr m c k)
    have k0 : v82_0 (after condOps (atK m k c)) = v82_0 (A28 m c) := (cond_keep _ (by decide)).trans (keep0 m c k)
    have k1 : v82_1 (after condOps (atK m k c)) = v82_1 (A28 m c) := (cond_keep _ (by decide)).trans (keep1 m c k)
    have k3 : v82_3 (after condOps (atK m k c)) = v82_3 (atK m k c) := cond_keep _ (by decide)
    have k4 : v82_4 (after condOps (atK m k c)) = v82_4 (atK m k c) := cond_keep _ (by decide)
    have hz : ∀ d, v82_0 (A28 m c) (ix1 (⟨k, hk'⟩ : Fin 16384)) * v82_3 (atK m k c) (ix1 d) + v82_1 (A28 m c) (ix2 (⟨k, hk'⟩ : Fin 16384) d)
        = Z (C m c) (X m c) (Wq m c) (Wk m c) (Wm m c) (k + 1) d := fun d => by
      rw [ih3, a_eq hS, bb_eq hS, Z]
    refine ⟨fun d => ?_, fun t d ht => ?_⟩
    · refine (step3 (after condOps (atK m k c)) k hk' hc d).trans ?_
      rw [k0, k1, k3]; exact hz d
    · refine (step4 (after condOps (atK m k c)) k hk' hc t d).trans ?_
      rw [k0, k1, k3, k4]
      by_cases h : t.val = k
      · rw [if_pos h, h]; exact hz d
      · rw [if_neg h]; exact ih4 t d (by omega)

/-- The rows after the loop. -/
theorem rows (hS : Starts (C m c)) (t : Fin 16384) (d : Fin 512) :
    v82_4 (B0 m c) (ix2 t d) = Z (C m c) (X m c) (Wq m c) (Wk m c) (Wm m c) (t.val + 1) d := by
  have e : v82_4 (B0 m c) = v82_4 (atK m 16384 c) := cond_keep _ (by decide)
  rw [e]; exact (loop hS 16384 (le_refl _)).2 t d t.isLt

end Cert.Proof.RefLoop
end
-- ==== Proof.RefResult.lean ====
module

public import proofs.«01_k».proof.Proof.RefLoop

/-! The reference's result: the tokens plus the state after each. -/

@[expose] public section

set_option maxRecDepth 16384

noncomputable section

namespace Cert.Proof.RefResult
open Cert.ReferenceIdeal Cert.ReferenceIdeal.Gen Cert.ReferenceIdeal.Value
open Idealize.ShloMosaic Idealize.ShloMosaic.TcCoe Idealize.ShloMosaic.StableHlo
open Idealize.SL Idealize.SL.Sem
open Cert.Proof.RefRun Cert.Proof.RefVals Cert.Proof.RefAt Cert.Proof.RefOps Cert.Proof.RefMath Cert.Proof.RefMeaning Cert.Proof.RefLoop Cert.Proof.Spec Cert.Proof.Args

variable {m : (ℓ : Loc nD τ sig) → Buf (Elt Ideal) ℓ} {c : Dev nD}

section
variable (hS : Starts (C m c))
include hS

/-- Which state each token reads. -/
theorem v87_eq (t : Fin 16384) : v87 (B8 m c) (ix1 t) = BitVec.ofNat 32 (cnt (Sel (C m c) (X m c) (Wq m c) (Wk m c)) (t.val + 1) - 1) := by
  classical
  have h84 : v84 (B8 m c) (ix1 t) = BitVec.ofNat 32 (cnt (Sel (C m c) (X m c) (Wq m c) (Wk m c)) (t.val + 1)) := by
    rw [e_v84, cumsum (v83 (B8 m c)) (fun i => if Sel (C m c) (X m c) (Wq m c) (Wk m c) i then 1 else 0)
      (fun i => by rw [e_v83, b_v43]; exact v43_nat hS i), Routing.sum_map_ite]
    unfold cnt
    congr 2
  have h0 : Sel (C m c) (X m c) (Wq m c) (Wk m c) 0 := sel_of_isf _ _ _ _ 0 hS.isf_zero
  have h1 := cnt_mono (Sel (C m c) (X m c) (Wq m c) (Wk m c)) (show 0 + 1 ≤ t.val + 1 by omega)
  rw [cnt_succ_pos _ 0 h0] at h1
  have h2 := cnt_le (Sel (C m c) (X m c) (Wq m c) (Wk m c)) (t.val + 1)
  have hsub : BitVec.ofNat 32 (cnt (Sel (C m c) (X m c) (Wq m c) (Wk m c)) (t.val + 1)) - 1#32
      = BitVec.ofNat 32 (cnt (Sel (C m c) (X m c) (Wq m c) (Wk m c)) (t.val + 1) - 1) := by
    generalize cnt (Sel (C m c) (X m c) (Wq m c) (Wk m c)) (t.val + 1) = n at h1 h2 ⊢
    apply BitVec.eq_of_toNat_eq
    rw [BitVec.toNat_sub, BitVec.toNat_ofNat, BitVec.toNat_ofNat, BitVec.toNat_ofNat]
    omega
  rw [e_v87, e_c_32, e_c_33, e_v86, h84, hsub]
  refine (Routing.clip_word (x := cnt (Sel (C m c) (X m c) (Wq m c) (Wk m c)) (t.val + 1) - 1) (lo := 0) (hi := 16383) (by omega) (by omega) (by omega)).trans ?_
  rw [Nat.max_eq_left (by omega), Nat.min_eq_left (by omega)]

/-- The state each token reads. -/
theorem v88_eq (t : Fin 16384) (d : Fin 512) : v88 (B8 m c) (ix2 t d) = state (C m c) (X m c) (Wq m c) (Wk m c) (Wm m c) (t.val + 1) d := by
  have h0 : Sel (C m c) (X m c) (Wq m c) (Wk m c) 0 := sel_of_isf _ _ _ _ 0 hS.isf_zero
  have h1 := cnt_mono (Sel (C m c) (X m c) (Wq m c) (Wk m c)) (show 0 + 1 ≤ t.val + 1 by omega)
  rw [cnt_succ_pos _ 0 h0] at h1
  have h2 := cnt_le (Sel (C m c) (X m c) (Wq m c) (Wk m c)) (t.val + 1)
  have hk : cnt (Sel (C m c) (X m c) (Wq m c) (Wk m c)) (t.val + 1) - 1 < 16384 := by omega
  rw [e_v88, take_row _ _ _ t d _ hk (v87_eq hS t), b_v82_4, rows hS, ← Z_eq_state _ _ _ _ hS (t.val + 1) (by omega) d]
  have e : cnt (Sel (C m c) (X m c) (Wq m c) (Wk m c)) (t.val + 1) - 1 + 1 = cnt (Sel (C m c) (X m c) (Wq m c) (Wk m c)) (t.val + 1) := by omega
  exact congrArg (fun n => Z (C m c) (X m c) (Wq m c) (Wk m c) (Wm m c) n d) e

/-- The confidence is a real number, so that it and its complement add up to one. -/
theorem conf_one (t : Fin 16384) : v91 (B8 m c) (ix1 t) + (1 - v91 (B8 m c) (ix1 t)) = 1 := by
  classical
  obtain ⟨r, hr, _, _⟩ := pp_real (C m c) (X m c) (Wq m c) (Wk m c) t.val
  have h : ∃ q : ℝ, v91 (B8 m c) (ix1 t) = (q : EReal) := by
    rw [e_v91, e_v90, b_v43, b_v41, v41_eq hS, v43_eq hS, hr]
    by_cases h : Sel (C m c) (X m c) (Wq m c) (Wk m c) t.val
    · rw [decide_eq_true h]; exact ⟨r, rfl⟩
    · rw [decide_eq_false h]; exact ⟨1 - r, by rw [EReal.coe_sub, EReal.coe_one]; rfl⟩
  obtain ⟨q, hq⟩ := h
  rw [hq, ← EReal.coe_one, ← EReal.coe_sub, ← EReal.coe_add, add_sub_cancel]

/-- The result, entry by entry. -/
theorem v98_eq (t : Fin 16384) (d : Fin 512) : v98 (B8 m c) (ix2 t d) = out (C m c) (X m c) (Wq m c) (Wk m c) (Wm m c) t.val d := by
  rw [e_v98, conf_one hS, mul_one, v88_eq hS, b_arg0]
  unfold out
  refine congrArg (· + state (C m c) (X m c) (Wq m c) (Wk m c) (Wm m c) (t.val + 1) d) ?_
  refine Eq.trans ?_ (toks_of_lt _ t.val t.isLt d).symm
  rw [a_arg0]

end

variable (m) (ρ : Dev nD → PrngReg)

/-- Every execution of the reference ends with its result at the specification's and its arguments as they were. -/
theorem result (hS : ∀ c, Starts (C m c)) :
    θ_run (defs (F := Ideal)) (onTc (τ := τ) (main (F := Ideal))) ⟨m, fun _ => 0, ρ⟩ (fun r => ∀ c : Dev nD,
      r.2.mem ((c.tc : Thread nD τ).loc main_v98)
          = (fun i : S16384x512.Idx => out (C m c) (X m c) (Wq m c) (Wk m c) (Wm m c) (i 0).val (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs (onTc (τ := τ) main) _).mono (fun r h c => ⟨?_, ?_, ?_, ?_, ?_, ?_⟩) (run m ρ)
  · refine (h c main_v98 rfl).trans (funext fun i : S16384x512.Idx => ?_)
    exact (congrArg (v98 (B8 m c)) (eq_ix2 i)).trans (v98_eq (hS c) (i 0) (i 1))
  · exact (h c main_arg0 rfl).trans (arg_keep (by decide) (by decide) (by decide))
  · exact (h c main_arg1 rfl).trans (arg_keep (by decide) (by decide) (by decide))
  · exact (h c main_arg2 rfl).trans (arg_keep (by decide) (by decide) (by decide))
  · exact (h c main_arg3 rfl).trans (arg_keep (by decide) (by decide) (by decide))
  · exact (h c main_arg4 rfl).trans (arg_keep (by decide) (by decide) (by decide))

end Cert.Proof.RefResult
end
-- ==== Proof.PreStarts.lean ====
module

public import proofs.«01_k».proof.Pre_starts_at_blocks
public import proofs.«01_k».proof.Proof.Args
public import Idealize.ShloMosaic.Lib.WordCmp

/-! What the precondition says of the table of starts: the first is zero, and each but the last is a multiple of 1024, not negative. -/

@[expose] public section

noncomputable section

namespace Cert.Proof.PreStarts
open Idealize.ShloMosaic Cert.Proof.Spec Cert.Proof.Args
open Cert.Pre_starts_at_blocks (S9)

/-- The one relation of shapes the precondition takes. -/
theorem facts : Cert.Pre_starts_at_blocks.Facts := ⟨by decide⟩

/-- An or of two bits is set when one of them is. -/
theorem or_one (a b : BitVec 1) : a ||| b = 1#1 ↔ a = 1#1 ∨ b = 1#1 := by revert a b; decide
/-- An and of two bits is set when both are. -/
theorem and_one (a b : BitVec 1) : a &&& b = 1#1 ↔ a = 1#1 ∧ b = 1#1 := by revert a b; decide

/-- The comparison for equality sets its bit when the words are equal. -/
theorem eq_word (a b : BitVec 32) : Scalar.cmpi .eq a b = 1#1 ↔ a = b := by
  show IntOp.cmpi .eq a b = 1#1 ↔ a = b
  rw [WordCmp.cmpi_eq_eq, WordCmp.ofBool_decide_eq_one_iff]
/-- The comparison with zero sets its bit when the signed word is not negative. -/
theorem ge_zero (a : BitVec 32) : Scalar.cmpi .sge a 0#32 = 1#1 ↔ 0 ≤ a.toInt := by
  show IntOp.cmpi .sge a 0#32 = 1#1 ↔ 0 ≤ a.toInt
  rw [WordCmp.cmpi_sge_eq, WordCmp.ofBool_decide_eq_one_iff]
  rfl
/-- None of the first eight positions is the last. -/
theorem not_last : ∀ s : Fin 8, ¬ Scalar.cmpi .eq (BitVec.ofNat 32 s.castSucc.val) 8#32 = 1#1 := by decide

/-- A word that is not negative and whose low ten bits are zero is a multiple of 1024. -/
theorem multiple (w : BitVec 32) (h0 : 0 ≤ w.toInt) (h1 : w &&& 1023#32 = 0#32) : ∃ k : ℕ, k < 2097152 ∧ w = BitVec.ofNat 32 (1024 * k) := by
  have hn : w.toNat % 1024 = 0 := by
    have h := congrArg BitVec.toNat h1
    rw [BitVec.toNat_and] at h
    exact (Nat.and_two_pow_sub_one_eq_mod w.toNat 10).symm.trans h
  have hl : w.toNat < 2147483648 := by
    rw [BitVec.toInt_eq_toNat_cond] at h0
    have := w.isLt
    split at h0 <;> omega
  refine ⟨w.toNat / 1024, by omega, BitVec.eq_of_toNat_eq ?_⟩
  rw [BitVec.toNat_ofNat]
  omega

/-- The precondition, entry by entry. -/
theorem starts_of_pre [hP : Cert.Pre_starts_at_blocks.Facts] (a0 : Cert.Pre_starts_at_blocks.S16384x512.Idx → EReal) (a1 : S9.Idx → BitVec 32)
    (a2 a3 a4 : Cert.Pre_starts_at_blocks.S512x512.Idx → EReal)
    (h : Cert.Pre_starts_at_blocks.fn (F := Ideal) a0 a1 a2 a3 a4 = fun _ => 1#1) : Starts (starts a1) := by
  have e : ∀ s : Fin 9, Cert.Pre_starts_at_blocks.fn (F := Ideal) a0 a1 a2 a3 a4 (ix1 s)
      = (Scalar.cmpi .eq (BitVec.ofNat 32 s.val) 8#32
        ||| ((Scalar.cmpi .sge (a1 (ix1 s)) 0#32 &&& Scalar.cmpi .eq (a1 (ix1 s) &&& 1023#32) 0#32)
          &&& (Scalar.cmpi .sgt (BitVec.ofNat 32 s.val) 0#32 ||| Scalar.cmpi .eq (a1 (ix1 s)) 0#32))) := fun s => by
    unfold Cert.Pre_starts_at_blocks.fn
    dsimp only
    pointwise
    all_goals rfl
  have p : ∀ s : Fin 8, (0 ≤ (a1 (ix1 s.castSucc)).toInt ∧ a1 (ix1 s.castSucc) &&& 1023#32 = 0#32)
      ∧ (Scalar.cmpi .sgt (BitVec.ofNat 32 s.castSucc.val) 0#32 = 1#1 ∨ a1 (ix1 s.castSucc) = 0#32) := fun s => by
    have h' := (e s.castSucc).symm.trans (congrFun h _)
    have h8 := not_last s
    rw [or_one, and_one, and_one, or_one] at h'
    obtain ⟨⟨h1, h2⟩, h3⟩ := h'.resolve_left h8
    exact ⟨⟨(ge_zero _).mp h1, (eq_word _ _).mp h2⟩, h3.imp id (eq_word _ _).mp⟩
  exact ⟨(p 0).2.resolve_left (by decide), fun s => multiple _ (p s).1.1 (p s).1.2⟩

end Cert.Proof.PreStarts
end
-- ==== Proof.lean ====
module

public import proofs.«01_k».proof.Proof.KFrame
public import proofs.«01_k».proof.Proof.KIFrame
public import proofs.«01_k».proof.Proof.RefRun
public import proofs.«01_k».proof.Proof.KIValue
public import proofs.«01_k».proof.Proof.RefResult
public import proofs.«01_k».proof.Proof.PreStarts
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The kernel and the reference end with the same result: each ends with the specification's, and they agree on the arguments. -/
theorem algebraic [hP : Cert.Pre_starts_at_blocks.Facts] : Cert.algebraic_KernelIdeal_ReferenceIdeal_pre_starts_at_blocks (hKernelIdeal := Cert.KernelIdeal.Gen.facts)
    (hReferenceIdeal := Cert.ReferenceIdeal.Gen.facts) := fun m g m' g' hpre hargs => by
  have hS : ∀ c, Spec.Starts (KIValue.C m c) := fun c => PreStarts.starts_of_pre _ _ _ _ _ (hpre c)
  have hX : ∀ c, RefMeaning.X m' c = KIValue.X m c := fun c => congrArg Args.toks ((RefAt.a_arg0 m' c).trans (hargs c).1)
  have hC : ∀ c, RefMeaning.C m' c = KIValue.C m c := fun c => congrArg Args.starts ((RefAt.a_arg1 m' c).trans (hargs c).2.1)
  have hq : ∀ c, RefMeaning.Wq m' c = KIValue.Wq m c := fun c => congrArg Args.wt ((RefAt.a_arg2 m' c).trans (hargs c).2.2.1)
  have hk : ∀ c, RefMeaning.Wk m' c = KIValue.Wk m c := fun c => congrArg Args.wt ((RefAt.a_arg3 m' c).trans (hargs c).2.2.2.1)
  have hm : ∀ c, RefMeaning.Wm m' c = KIValue.Wm m c := fun c => congrArg Args.wt ((RefAt.a_arg4 m' c).trans (hargs c).2.2.2.2)
  refine ⟨fun c => (fun i => Spec.out (KIValue.C m c) (KIValue.X m c) (KIValue.Wq m c) (KIValue.Wk m c) (KIValue.Wm m c) (i 0).val (i 1)), KIValue.result m g hS, ?_⟩
  have h := RefResult.result m' g' (fun c => (hC c).symm ▸ hS c)
  simp only [hX, hC, hq, hk, hm] at h
  exact h

/-- All the claims. -/
theorem claim : Cert.Claim := ⟨Cert.Kernel.Gen.facts, Cert.KernelIdeal.Gen.facts, Cert.ReferenceIdeal.Gen.facts, PreStarts.facts,
  fun m g _ => KFrame.frame m g, fun m g _ => KIFrame.frame m g, fun m g _ => KIFrame.frame m g, fun m g _ => RefRun.frame m g, fun m g _ => RefRun.frame m g, trivial,
  algebraic (hP := PreStarts.facts)⟩

end Cert.Proof

end
